-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys_KernelIdeal [hPre_finite_queries_and_keys_KernelIdeal : Cert.Pre_finite_queries_and_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys_ReferenceIdeal [hPre_finite_queries_and_keys_ReferenceIdeal : Cert.Pre_finite_queries_and_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys_KernelIdeal [hKernelIdeal : Cert.KernelIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys_ReferenceIdeal [hReferenceIdeal : Cert.ReferenceIdeal.Facts] [hPre_finite_queries_and_keys_ReferenceIdeal : Cert.Pre_finite_queries_and_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_queries_and_keys_KernelIdeal [hKernelIdeal : Cert.KernelIdeal.Facts] [hReferenceIdeal : Cert.ReferenceIdeal.Facts] [hPre_finite_queries_and_keys_KernelIdeal : Cert.Pre_finite_queries_and_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 2048, 16, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![1, 1024, 16, 128]⟩ ⟨4, ![1, 2048, 16, 128]⟩ (Layout.meshBlock [2, 2, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys_KernelIdeal : Cert.Pre_finite_queries_and_keys_KernelIdeal.Facts) (hPre_finite_queries_and_keys_ReferenceIdeal : Cert.Pre_finite_queries_and_keys_ReferenceIdeal.Facts),
    quiescent_Kernel (hKernel := hKernel)
    ∧ quiescent_KernelIdeal (hKernelIdeal := hKernelIdeal)
    ∧ quiescent_KernelIdeal_pre_finite_queries_and_keys_KernelIdeal (hKernelIdeal := hKernelIdeal) (hPre_finite_queries_and_keys_KernelIdeal := hPre_finite_queries_and_keys_KernelIdeal)
    ∧ quiescent_ReferenceIdeal (hReferenceIdeal := hReferenceIdeal)
    ∧ quiescent_ReferenceIdeal_pre_finite_queries_and_keys_ReferenceIdeal (hReferenceIdeal := hReferenceIdeal) (hPre_finite_queries_and_keys_ReferenceIdeal := hPre_finite_queries_and_keys_ReferenceIdeal)
    ∧ preserves_Kernel_KernelIdeal
    ∧ algebraic_KernelIdeal_ReferenceIdeal_pre_finite_queries_and_keys_KernelIdeal (hKernelIdeal := hKernelIdeal) (hReferenceIdeal := hReferenceIdeal) (hPre_finite_queries_and_keys_KernelIdeal := hPre_finite_queries_and_keys_KernelIdeal)
-- ==== Pre_finite_queries_and_keys_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)

variable [Facts]

def fn {F : FTy → Type} [FloatOps F] (main_arg0 : FVec F S1x1024x16x128 .f32) (main_arg1 : FVec F S1x1024x16x128 .f32) (main_arg2 : FVec F S1x1024x16x128 .f32) : IVec S1x1024x16x128 1 × IVec S1x1024x16x128 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_v3 : FVec F S1x1024x16x128 .f32 := Host.absf main_arg1
  let main_cst_0 : FVec F S_ .f32 := constant S_ .f32 0x7F800000#32
  let main_v4 : FVec F S1x1024x16x128 .f32 := broadcastInDim S1x1024x16x128 ![] bcast_S_S1x1024x16x128 main_cst_0
  let main_v5 : IVec S1x1024x16x128 1 := cmpf .olt main_v3 main_v4
  (main_v2, main_v5)
-- ==== Pre_finite_queries_and_keys_ReferenceIdeal.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)

variable [Facts]

def fn {F : FTy → Type} [FloatOps F] (main_arg0 : FVec F S1x2048x16x128 .f32) (main_arg1 : FVec F S1x2048x16x128 .f32) (main_arg2 : FVec F S1x2048x16x128 .f32) : IVec S1x2048x16x128 1 × IVec S1x2048x16x128 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_v3 : FVec F S1x2048x16x128 .f32 := Host.absf main_arg1
  let main_cst_0 : FVec F S_ .f32 := constant S_ .f32 0x7F800000#32
  let main_v4 : FVec F S1x2048x16x128 .f32 := broadcastInDim S1x2048x16x128 ![] bcast_S_S1x2048x16x128 main_cst_0
  let main_v5 : IVec S1x2048x16x128 1 := cmpf .olt main_v3 main_v4
  (main_v2, main_v5)
-- ==== Kernel.lean ====
abbrev S1x1024x16x128 : Shape := ⟨4, ![1, 1024, 16, 128]⟩
abbrev S4x1024x128 : Shape := ⟨3, ![4, 1024, 128]⟩
abbrev S16x1024x128 : Shape := ⟨3, ![16, 1024, 128]⟩
abbrev S4 : Shape := ⟨1, ![4]⟩
abbrev S4x4 : Shape := ⟨2, ![4, 4]⟩
abbrev S_ : Shape := ⟨0, ![]⟩
abbrev S1x1024x1x128 : Shape := ⟨4, ![1, 1024, 1, 128]⟩
abbrev S1024x128 : Shape := ⟨2, ![1024, 128]⟩
abbrev S1x1024x128 : Shape := ⟨3, ![1, 1024, 128]⟩
abbrev S1 : Shape := ⟨1, ![1]⟩
abbrev S1024x1024 : Shape := ⟨2, ![1024, 1024]⟩
abbrev S1024 : Shape := ⟨1, ![1024]⟩
abbrev S1024x1 : Shape := ⟨2, ![1024, 1]⟩
abbrev S1x1 : Shape := ⟨2, ![1, 1]⟩
abbrev S1024x16x128 : Shape := ⟨3, ![1024, 16, 128]⟩

abbrev nBuf : Space → Nat
  | .hbm => 4
  | .vmem => 9
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1x1024x16x128, .f32⟩
  | .local _ .vmem, ⟨0, _⟩ => ⟨S1x1024x16x128, .f32⟩
  | .local _ .vmem, ⟨1, _⟩ => ⟨S1x1024x16x128, .f32⟩
  | .local _ .vmem, ⟨2, _⟩ => ⟨S1x1024x16x128, .f32⟩
  | .local _ .vmem, ⟨3, _⟩ => ⟨S1x1024x16x128, .f32⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S16x1024x128, .bf16⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_18 : BitVec 32 := 8#32
  let v41 : BitVec 32 := Scalar.muli v9 c8_i32_18
  let v42 : BitVec 32 := Scalar.addi c0_i32_19 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_20 : BitVec 32 := 4#32
  let v43 : BitVec 32 := Scalar.muli v5 c4_i32_20
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v45 : BitVec 32 := Scalar.muli v8 c1_i32_21
  let v46 : BitVec 32 := Scalar.addi v44 v45
  v46.toNat
def k0_dev2 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v86 : BitVec 32 := Scalar.muli v2 c8_i32_43
  let v87 : BitVec 32 := Scalar.addi c0_i32_44 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_22 : BitVec 32 := 1#32
  let v47 : BitVec 32 := Scalar.addi v39 c1_i32_22
  let c4_i32_23 : BitVec 32 := 4#32
  let c0_i32_24 : BitVec 32 := 0#32
  let v48 : BitVec 1 := Scalar.cmpi .eq c4_i32_23 c0_i32_24
  let c1_i32_25 : BitVec 32 := 1#32
  let v49 : BitVec 32 := Scalar.select v48 c1_i32_25 c4_i32_23
  let v50 : BitVec 32 := Scalar.remsi v47 v49
  let c0_i32_27 : BitVec 32 := 0#32
  let v52 : BitVec 1 := Scalar.cmpi .slt v50 c0_i32_27
  let c0_i32_28 : BitVec 32 := 0#32
  let v53 : BitVec 1 := Scalar.cmpi .slt v49 c0_i32_28
  let v54 : BitVec 1 := Scalar.xori v52 v53
  let c0_i32_26 : BitVec 32 := 0#32
  let v51 : BitVec 1 := Scalar.cmpi .ne v50 c0_i32_26
  let v55 : BitVec 1 := Scalar.andi v54 v51
  let v56 : BitVec 32 := Scalar.addi v50 v49
  let v57 : BitVec 32 := Scalar.select v55 v56 v50
  let c0_i32_30 : BitVec 32 := 0#32
  let v59 : BitVec 1 := Scalar.cmpi .sgt v57 c0_i32_30
  let v60 : BitVec 32 := Scalar.extui v59
  let c0_i32_31 : BitVec 32 := 0#32
  let v61 : BitVec 1 := Scalar.cmpi .slt v57 c0_i32_31
  let v62 : BitVec 32 := Scalar.extui v61
  let v63 : BitVec 32 := Scalar.subi v60 v62
  let c2_i32_29 : BitVec 32 := 2#32
  let c0_i32_32 : BitVec 32 := 0#32
  let v64 : BitVec 1 := Scalar.cmpi .sgt c2_i32_29 c0_i32_32
  let v65 : BitVec 32 := Scalar.extui v64
  let c0_i32_33 : BitVec 32 := 0#32
  let v66 : BitVec 1 := Scalar.cmpi .slt c2_i32_29 c0_i32_33
  let v67 : BitVec 32 := Scalar.extui v66
  let v68 : BitVec 32 := Scalar.subi v65 v67
  let v69 : BitVec 1 := Scalar.cmpi .ne v63 v68
  let v70 : BitVec 32 := Scalar.remsi v57 c2_i32_29
  let c0_i32_34 : BitVec 32 := 0#32
  let v71 : BitVec 1 := Scalar.cmpi .ne v70 c0_i32_34
  let v72 : BitVec 1 := Scalar.andi v69 v71
  let v58 : BitVec 32 := Scalar.divsi v57 c2_i32_29
  let c1_i32_35 : BitVec 32 := 1#32
  let v73 : BitVec 32 := Scalar.subi v58 c1_i32_35
  let v74 : BitVec 32 := Scalar.select v72 v73 v58
  let c4_i32_45 : BitVec 32 := 4#32
  let v88 : BitVec 32 := Scalar.muli v74 c4_i32_45
  let v89 : BitVec 32 := Scalar.addi v87 v88
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_36 : BitVec 32 := 2#32
  let c0_i32_37 : BitVec 32 := 0#32
  let v75 : BitVec 1 := Scalar.cmpi .eq c2_i32_36 c0_i32_37
  let c1_i32_38 : BitVec 32 := 1#32
  let v76 : BitVec 32 := Scalar.select v75 c1_i32_38 c2_i32_36
  let v77 : BitVec 32 := Scalar.remsi v57 v76
  let c0_i32_40 : BitVec 32 := 0#32
  let v79 : BitVec 1 := Scalar.cmpi .slt v77 c0_i32_40
  let c0_i32_41 : BitVec 32 := 0#32
  let v80 : BitVec 1 := Scalar.cmpi .slt v76 c0_i32_41
  let v81 : BitVec 1 := Scalar.xori v79 v80
  let c0_i32_39 : BitVec 32 := 0#32
  let v78 : BitVec 1 := Scalar.cmpi .ne v77 c0_i32_39
  let v82 : BitVec 1 := Scalar.andi v81 v78
  let v83 : BitVec 32 := Scalar.addi v77 v76
  let v84 : BitVec 32 := Scalar.select v82 v83 v77
  let v85 : BitVec 32 := Scalar.addi v27 v84
  let c1_i32_46 : BitVec 32 := 1#32
  let v90 : BitVec 32 := Scalar.muli v85 c1_i32_46
  let v91 : BitVec 32 := Scalar.addi v89 v90
  v91.toNat
def k0_dev3 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v131 : BitVec 32 := Scalar.muli v2 c8_i32_68
  let v132 : BitVec 32 := Scalar.addi c0_i32_69 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_47 : BitVec 32 := 2#32
  let v92 : BitVec 32 := Scalar.addi v39 c2_i32_47
  let c4_i32_48 : BitVec 32 := 4#32
  let c0_i32_49 : BitVec 32 := 0#32
  let v93 : BitVec 1 := Scalar.cmpi .eq c4_i32_48 c0_i32_49
  let c1_i32_50 : BitVec 32 := 1#32
  let v94 : BitVec 32 := Scalar.select v93 c1_i32_50 c4_i32_48
  let v95 : BitVec 32 := Scalar.remsi v92 v94
  let c0_i32_52 : BitVec 32 := 0#32
  let v97 : BitVec 1 := Scalar.cmpi .slt v95 c0_i32_52
  let c0_i32_53 : BitVec 32 := 0#32
  let v98 : BitVec 1 := Scalar.cmpi .slt v94 c0_i32_53
  let v99 : BitVec 1 := Scalar.xori v97 v98
  let c0_i32_51 : BitVec 32 := 0#32
  let v96 : BitVec 1 := Scalar.cmpi .ne v95 c0_i32_51
  let v100 : BitVec 1 := Scalar.andi v99 v96
  let v101 : BitVec 32 := Scalar.addi v95 v94
  let v102 : BitVec 32 := Scalar.select v100 v101 v95
  let c0_i32_55 : BitVec 32 := 0#32
  let v104 : BitVec 1 := Scalar.cmpi .sgt v102 c0_i32_55
  let v105 : BitVec 32 := Scalar.extui v104
  let c0_i32_56 : BitVec 32 := 0#32
  let v106 : BitVec 1 := Scalar.cmpi .slt v102 c0_i32_56
  let v107 : BitVec 32 := Scalar.extui v106
  let v108 : BitVec 32 := Scalar.subi v105 v107
  let c2_i32_54 : BitVec 32 := 2#32
  let c0_i32_57 : BitVec 32 := 0#32
  let v109 : BitVec 1 := Scalar.cmpi .sgt c2_i32_54 c0_i32_57
  let v110 : BitVec 32 := Scalar.extui v109
  let c0_i32_58 : BitVec 32 := 0#32
  let v111 : BitVec 1 := Scalar.cmpi .slt c2_i32_54 c0_i32_58
  let v112 : BitVec 32 := Scalar.extui v111
  let v113 : BitVec 32 := Scalar.subi v110 v112
  let v114 : BitVec 1 := Scalar.cmpi .ne v108 v113
  let v115 : BitVec 32 := Scalar.remsi v102 c2_i32_54
  let c0_i32_59 : BitVec 32 := 0#32
  let v116 : BitVec 1 := Scalar.cmpi .ne v115 c0_i32_59
  let v117 : BitVec 1 := Scalar.andi v114 v116
  let v103 : BitVec 32 := Scalar.divsi v102 c2_i32_54
  let c1_i32_60 : BitVec 32 := 1#32
  let v118 : BitVec 32 := Scalar.subi v103 c1_i32_60
  let v119 : BitVec 32 := Scalar.select v117 v118 v103
  let c4_i32_70 : BitVec 32 := 4#32
  let v133 : BitVec 32 := Scalar.muli v119 c4_i32_70
  let v134 : BitVec 32 := Scalar.addi v132 v133
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_61 : BitVec 32 := 2#32
  let c0_i32_62 : BitVec 32 := 0#32
  let v120 : BitVec 1 := Scalar.cmpi .eq c2_i32_61 c0_i32_62
  let c1_i32_63 : BitVec 32 := 1#32
  let v121 : BitVec 32 := Scalar.select v120 c1_i32_63 c2_i32_61
  let v122 : BitVec 32 := Scalar.remsi v102 v121
  let c0_i32_65 : BitVec 32 := 0#32
  let v124 : BitVec 1 := Scalar.cmpi .slt v122 c0_i32_65
  let c0_i32_66 : BitVec 32 := 0#32
  let v125 : BitVec 1 := Scalar.cmpi .slt v121 c0_i32_66
  let v126 : BitVec 1 := Scalar.xori v124 v125
  let c0_i32_64 : BitVec 32 := 0#32
  let v123 : BitVec 1 := Scalar.cmpi .ne v122 c0_i32_64
  let v127 : BitVec 1 := Scalar.andi v126 v123
  let v128 : BitVec 32 := Scalar.addi v122 v121
  let v129 : BitVec 32 := Scalar.select v127 v128 v122
  let v130 : BitVec 32 := Scalar.addi v27 v129
  let c1_i32_71 : BitVec 32 := 1#32
  let v135 : BitVec 32 := Scalar.muli v130 c1_i32_71
  let v136 : BitVec 32 := Scalar.addi v134 v135
  v136.toNat
def k0_dev4 (d0 : Dev nD) : Nat :=
  let c0_i32_93 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_92 : BitVec 32 := 8#32
  let v176 : BitVec 32 := Scalar.muli v2 c8_i32_92
  let v177 : BitVec 32 := Scalar.addi c0_i32_93 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32 : BitVec 32 := 3#32
  let v137 : BitVec 32 := Scalar.addi v39 c3_i32
  let c4_i32_72 : BitVec 32 := 4#32
  let c0_i32_73 : BitVec 32 := 0#32
  let v138 : BitVec 1 := Scalar.cmpi .eq c4_i32_72 c0_i32_73
  let c1_i32_74 : BitVec 32 := 1#32
  let v139 : BitVec 32 := Scalar.select v138 c1_i32_74 c4_i32_72
  let v140 : BitVec 32 := Scalar.remsi v137 v139
  let c0_i32_76 : BitVec 32 := 0#32
  let v142 : BitVec 1 := Scalar.cmpi .slt v140 c0_i32_76
  let c0_i32_77 : BitVec 32 := 0#32
  let v143 : BitVec 1 := Scalar.cmpi .slt v139 c0_i32_77
  let v144 : BitVec 1 := Scalar.xori v142 v143
  let c0_i32_75 : BitVec 32 := 0#32
  let v141 : BitVec 1 := Scalar.cmpi .ne v140 c0_i32_75
  let v145 : BitVec 1 := Scalar.andi v144 v141
  let v146 : BitVec 32 := Scalar.addi v140 v139
  let v147 : BitVec 32 := Scalar.select v145 v146 v140
  let c0_i32_79 : BitVec 32 := 0#32
  let v149 : BitVec 1 := Scalar.cmpi .sgt v147 c0_i32_79
  let v150 : BitVec 32 := Scalar.extui v149
  let c0_i32_80 : BitVec 32 := 0#32
  let v151 : BitVec 1 := Scalar.cmpi .slt v147 c0_i32_80
  let v152 : BitVec 32 := Scalar.extui v151
  let v153 : BitVec 32 := Scalar.subi v150 v152
  let c2_i32_78 : BitVec 32 := 2#32
  let c0_i32_81 : BitVec 32 := 0#32
  let v154 : BitVec 1 := Scalar.cmpi .sgt c2_i32_78 c0_i32_81
  let v155 : BitVec 32 := Scalar.extui v154
  let c0_i32_82 : BitVec 32 := 0#32
  let v156 : BitVec 1 := Scalar.cmpi .slt c2_i32_78 c0_i32_82
  let v157 : BitVec 32 := Scalar.extui v156
  let v158 : BitVec 32 := Scalar.subi v155 v157
  let v159 : BitVec 1 := Scalar.cmpi .ne v153 v158
  let v160 : BitVec 32 := Scalar.remsi v147 c2_i32_78
  let c0_i32_83 : BitVec 32 := 0#32
  let v161 : BitVec 1 := Scalar.cmpi .ne v160 c0_i32_83
  let v162 : BitVec 1 := Scalar.andi v159 v161
  let v148 : BitVec 32 := Scalar.divsi v147 c2_i32_78
  let c1_i32_84 : BitVec 32 := 1#32
  let v163 : BitVec 32 := Scalar.subi v148 c1_i32_84
  let v164 : BitVec 32 := Scalar.select v162 v163 v148
  let c4_i32_94 : BitVec 32 := 4#32
  let v178 : BitVec 32 := Scalar.muli v164 c4_i32_94
  let v179 : BitVec 32 := Scalar.addi v177 v178
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_85 : BitVec 32 := 2#32
  let c0_i32_86 : BitVec 32 := 0#32
  let v165 : BitVec 1 := Scalar.cmpi .eq c2_i32_85 c0_i32_86
  let c1_i32_87 : BitVec 32 := 1#32
  let v166 : BitVec 32 := Scalar.select v165 c1_i32_87 c2_i32_85
  let v167 : BitVec 32 := Scalar.remsi v147 v166
  let c0_i32_89 : BitVec 32 := 0#32
  let v169 : BitVec 1 := Scalar.cmpi .slt v167 c0_i32_89
  let c0_i32_90 : BitVec 32 := 0#32
  let v170 : BitVec 1 := Scalar.cmpi .slt v166 c0_i32_90
  let v171 : BitVec 1 := Scalar.xori v169 v170
  let c0_i32_88 : BitVec 32 := 0#32
  let v168 : BitVec 1 := Scalar.cmpi .ne v167 c0_i32_88
  let v172 : BitVec 1 := Scalar.andi v171 v168
  let v173 : BitVec 32 := Scalar.addi v167 v166
  let v174 : BitVec 32 := Scalar.select v172 v173 v167
  let v175 : BitVec 32 := Scalar.addi v27 v174
  let c1_i32_95 : BitVec 32 := 1#32
  let v180 : BitVec 32 := Scalar.muli v175 c1_i32_95
  let v181 : BitVec 32 := Scalar.addi v179 v180
  v181.toNat
def k0_off1 (d0 : Dev nD) (c0_i32_98 : BitVec 32) : Fin 4 → Nat :=
  let c0 : Index := 0#32
  let c0_99 : Index := 0#32
  let c4_i32_97 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v182 : BitVec 32 := Scalar.muli c4_i32_97 v39
  let v183 : BitVec 32 := Scalar.addi v182 c0_i32_98
  let v184 : Index := Scalar.indexCast v183
  let c0_100 : Index := 0#32
  ![0, 0, v184.toNat, 0]
def k0_dev5 (d0 : Dev nD) : Nat :=
  let c0_i32_115 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_114 : BitVec 32 := 8#32
  let v198 : BitVec 32 := Scalar.muli v9 c8_i32_114
  let v199 : BitVec 32 := Scalar.addi c0_i32_115 v198
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_116 : BitVec 32 := 4#32
  let v200 : BitVec 32 := Scalar.muli v5 c4_i32_116
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v202 : BitVec 32 := Scalar.muli v8 c1_i32_117
  let v203 : BitVec 32 := Scalar.addi v201 v202
  v203.toNat
def k0_dev6 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v212 : BitVec 32 := Scalar.muli v9 c8_i32_126
  let v213 : BitVec 32 := Scalar.addi c0_i32_127 v212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v214 : BitVec 32 := Scalar.muli v5 c4_i32_128
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v216 : BitVec 32 := Scalar.muli v8 c1_i32_129
  let v217 : BitVec 32 := Scalar.addi v215 v216
  v217.toNat
def k0_dev7 (d0 : Dev nD) : Nat :=
  let c0_i32_152 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_151 : BitVec 32 := 8#32
  let v242 : BitVec 32 := Scalar.muli v9 c8_i32_151
  let v243 : BitVec 32 := Scalar.addi c0_i32_152 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v244 : BitVec 32 := Scalar.muli v5 c4_i32_153
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v246 : BitVec 32 := Scalar.muli v8 c1_i32_154
  let v247 : BitVec 32 := Scalar.addi v245 v246
  v247.toNat
def k0_dev8 (d0 : Dev nD) : Nat :=
  let c0_i32_164 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_163 : BitVec 32 := 8#32
  let v256 : BitVec 32 := Scalar.muli v9 c8_i32_163
  let v257 : BitVec 32 := Scalar.addi c0_i32_164 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v258 : BitVec 32 := Scalar.muli v5 c4_i32_165
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v260 : BitVec 32 := Scalar.muli v8 c1_i32_166
  let v261 : BitVec 32 := Scalar.addi v259 v260
  v261.toNat
def k0_dev9 (d0 : Dev nD) : Nat :=
  let c0_i32_189 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_188 : BitVec 32 := 8#32
  let v286 : BitVec 32 := Scalar.muli v9 c8_i32_188
  let v287 : BitVec 32 := Scalar.addi c0_i32_189 v286
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_190 : BitVec 32 := 4#32
  let v288 : BitVec 32 := Scalar.muli v5 c4_i32_190
  let v289 : BitVec 32 := Scalar.addi v287 v288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v290 : BitVec 32 := Scalar.muli v8 c1_i32_191
  let v291 : BitVec 32 := Scalar.addi v289 v290
  v291.toNat
def k0_dev10 (d0 : Dev nD) : Nat :=
  let c0_i32_201 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_200 : BitVec 32 := 8#32
  let v300 : BitVec 32 := Scalar.muli v9 c8_i32_200
  let v301 : BitVec 32 := Scalar.addi c0_i32_201 v300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v302 : BitVec 32 := Scalar.muli v5 c4_i32_202
  let v303 : BitVec 32 := Scalar.addi v301 v302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v304 : BitVec 32 := Scalar.muli v8 c1_i32_203
  let v305 : BitVec 32 := Scalar.addi v303 v304
  v305.toNat
def k0_dev11 (d0 : Dev nD) : Nat :=
  let c0_i32_226 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_225 : BitVec 32 := 8#32
  let v330 : BitVec 32 := Scalar.muli v9 c8_i32_225
  let v331 : BitVec 32 := Scalar.addi c0_i32_226 v330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v332 : BitVec 32 := Scalar.muli v5 c4_i32_227
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v334 : BitVec 32 := Scalar.muli v8 c1_i32_228
  let v335 : BitVec 32 := Scalar.addi v333 v334
  v335.toNat
def k0_dev12 (d0 : Dev nD) : Nat :=
  let c0_i32_238 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_237 : BitVec 32 := 8#32
  let v344 : BitVec 32 := Scalar.muli v9 c8_i32_237
  let v345 : BitVec 32 := Scalar.addi c0_i32_238 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v346 : BitVec 32 := Scalar.muli v5 c4_i32_239
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v348 : BitVec 32 := Scalar.muli v8 c1_i32_240
  let v349 : BitVec 32 := Scalar.addi v347 v348
  v349.toNat
def k0_off2 (d0 : Dev nD) (c0_i32_246 : BitVec 32) : Fin 3 → Nat :=
  let c4_i32_245 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v358 : BitVec 32 := Scalar.muli c4_i32_245 v39
  let v359 : BitVec 32 := Scalar.addi v358 c0_i32_246
  let v437 : Index := Scalar.indexCast v359
  let c0_295 : Index := 0#32
  let c0_296 : Index := 0#32
  ![v437.toNat, 0, 0]
def k0_off3 (d0 : Dev nD) (c1_i32_297 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v441 : BitVec 32 := Scalar.addi v39 c1_i32_297
  let c4_i32_298 : BitVec 32 := 4#32
  let c0_i32_299 : BitVec 32 := 0#32
  let v442 : BitVec 1 := Scalar.cmpi .eq c4_i32_298 c0_i32_299
  let c1_i32_300 : BitVec 32 := 1#32
  let v443 : BitVec 32 := Scalar.select v442 c1_i32_300 c4_i32_298
  let v444 : BitVec 32 := Scalar.remsi v441 v443
  let c0_i32_302 : BitVec 32 := 0#32
  let v446 : BitVec 1 := Scalar.cmpi .slt v444 c0_i32_302
  let c0_i32_303 : BitVec 32 := 0#32
  let v447 : BitVec 1 := Scalar.cmpi .slt v443 c0_i32_303
  let v448 : BitVec 1 := Scalar.xori v446 v447
  let c0_i32_301 : BitVec 32 := 0#32
  let v445 : BitVec 1 := Scalar.cmpi .ne v444 c0_i32_301
  let v449 : BitVec 1 := Scalar.andi v448 v445
  let v450 : BitVec 32 := Scalar.addi v444 v443
  let v451 : BitVec 32 := Scalar.select v449 v450 v444
  let c0_i32_322 : BitVec 32 := 0#32
  ![v451.toNat, 0]
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c0_i32_321 : BitVec 32 := 0#32
  ![v39.toNat, 0]
def k0_off5 (d0 : Dev nD) (c0_i32_307 : BitVec 32) : Fin 3 → Nat :=
  let c4_i32_306 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v454 : BitVec 32 := Scalar.muli c4_i32_306 v39
  let v455 : BitVec 32 := Scalar.addi v454 c0_i32_307
  let c0_i32_327 : BitVec 32 := 0#32
  let c0_i32_328 : BitVec 32 := 0#32
  ![v455.toNat, 0, 0]
def k0_dev13 (d0 : Dev nD) : Nat :=
  let c0_i32_324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_323 : BitVec 32 := 8#32
  let v484 : BitVec 32 := Scalar.muli v2 c8_i32_323
  let v485 : BitVec 32 := Scalar.addi c0_i32_324 v484
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_297 : BitVec 32 := 1#32
  let v441 : BitVec 32 := Scalar.addi v39 c1_i32_297
  let c4_i32_298 : BitVec 32 := 4#32
  let c0_i32_299 : BitVec 32 := 0#32
  let v442 : BitVec 1 := Scalar.cmpi .eq c4_i32_298 c0_i32_299
  let c1_i32_300 : BitVec 32 := 1#32
  let v443 : BitVec 32 := Scalar.select v442 c1_i32_300 c4_i32_298
  let v444 : BitVec 32 := Scalar.remsi v441 v443
  let c0_i32_302 : BitVec 32 := 0#32
  let v446 : BitVec 1 := Scalar.cmpi .slt v444 c0_i32_302
  let c0_i32_303 : BitVec 32 := 0#32
  let v447 : BitVec 1 := Scalar.cmpi .slt v443 c0_i32_303
  let v448 : BitVec 1 := Scalar.xori v446 v447
  let c0_i32_301 : BitVec 32 := 0#32
  let v445 : BitVec 1 := Scalar.cmpi .ne v444 c0_i32_301
  let v449 : BitVec 1 := Scalar.andi v448 v445
  let v450 : BitVec 32 := Scalar.addi v444 v443
  let v451 : BitVec 32 := Scalar.select v449 v450 v444
  let c0_i32_309 : BitVec 32 := 0#32
  let v457 : BitVec 1 := Scalar.cmpi .sgt v451 c0_i32_309
  let v458 : BitVec 32 := Scalar.extui v457
  let c0_i32_310 : BitVec 32 := 0#32
  let v459 : BitVec 1 := Scalar.cmpi .slt v451 c0_i32_310
  let v460 : BitVec 32 := Scalar.extui v459
  let v461 : BitVec 32 := Scalar.subi v458 v460
  let c2_i32_308 : BitVec 32 := 2#32
  let c0_i32_311 : BitVec 32 := 0#32
  let v462 : BitVec 1 := Scalar.cmpi .sgt c2_i32_308 c0_i32_311
  let v463 : BitVec 32 := Scalar.extui v462
  let c0_i32_312 : BitVec 32 := 0#32
  let v464 : BitVec 1 := Scalar.cmpi .slt c2_i32_308 c0_i32_312
  let v465 : BitVec 32 := Scalar.extui v464
  let v466 : BitVec 32 := Scalar.subi v463 v465
  let v467 : BitVec 1 := Scalar.cmpi .ne v461 v466
  let v468 : BitVec 32 := Scalar.remsi v451 c2_i32_308
  let c0_i32_313 : BitVec 32 := 0#32
  let v469 : BitVec 1 := Scalar.cmpi .ne v468 c0_i32_313
  let v470 : BitVec 1 := Scalar.andi v467 v469
  let v456 : BitVec 32 := Scalar.divsi v451 c2_i32_308
  let c1_i32_314 : BitVec 32 := 1#32
  let v471 : BitVec 32 := Scalar.subi v456 c1_i32_314
  let v472 : BitVec 32 := Scalar.select v470 v471 v456
  let c4_i32_325 : BitVec 32 := 4#32
  let v486 : BitVec 32 := Scalar.muli v472 c4_i32_325
  let v487 : BitVec 32 := Scalar.addi v485 v486
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_315 : BitVec 32 := 2#32
  let c0_i32_316 : BitVec 32 := 0#32
  let v473 : BitVec 1 := Scalar.cmpi .eq c2_i32_315 c0_i32_316
  let c1_i32_317 : BitVec 32 := 1#32
  let v474 : BitVec 32 := Scalar.select v473 c1_i32_317 c2_i32_315
  let v475 : BitVec 32 := Scalar.remsi v451 v474
  let c0_i32_319 : BitVec 32 := 0#32
  let v477 : BitVec 1 := Scalar.cmpi .slt v475 c0_i32_319
  let c0_i32_320 : BitVec 32 := 0#32
  let v478 : BitVec 1 := Scalar.cmpi .slt v474 c0_i32_320
  let v479 : BitVec 1 := Scalar.xori v477 v478
  let c0_i32_318 : BitVec 32 := 0#32
  let v476 : BitVec 1 := Scalar.cmpi .ne v475 c0_i32_318
  let v480 : BitVec 1 := Scalar.andi v479 v476
  let v481 : BitVec 32 := Scalar.addi v475 v474
  let v482 : BitVec 32 := Scalar.select v480 v481 v475
  let v483 : BitVec 32 := Scalar.addi v27 v482
  let c1_i32_326 : BitVec 32 := 1#32
  let v488 : BitVec 32 := Scalar.muli v483 c1_i32_326
  let v489 : BitVec 32 := Scalar.addi v487 v488
  v489.toNat
def k0_dev14 (d0 : Dev nD) : Nat :=
  let c0_i32_358 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_357 : BitVec 32 := 8#32
  let v541 : BitVec 32 := Scalar.muli v2 c8_i32_357
  let v542 : BitVec 32 := Scalar.addi c0_i32_358 v541
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_331 : BitVec 32 := 2#32
  let v498 : BitVec 32 := Scalar.addi v39 c2_i32_331
  let c4_i32_332 : BitVec 32 := 4#32
  let c0_i32_333 : BitVec 32 := 0#32
  let v499 : BitVec 1 := Scalar.cmpi .eq c4_i32_332 c0_i32_333
  let c1_i32_334 : BitVec 32 := 1#32
  let v500 : BitVec 32 := Scalar.select v499 c1_i32_334 c4_i32_332
  let v501 : BitVec 32 := Scalar.remsi v498 v500
  let c0_i32_336 : BitVec 32 := 0#32
  let v503 : BitVec 1 := Scalar.cmpi .slt v501 c0_i32_336
  let c0_i32_337 : BitVec 32 := 0#32
  let v504 : BitVec 1 := Scalar.cmpi .slt v500 c0_i32_337
  let v505 : BitVec 1 := Scalar.xori v503 v504
  let c0_i32_335 : BitVec 32 := 0#32
  let v502 : BitVec 1 := Scalar.cmpi .ne v501 c0_i32_335
  let v506 : BitVec 1 := Scalar.andi v505 v502
  let v507 : BitVec 32 := Scalar.addi v501 v500
  let v508 : BitVec 32 := Scalar.select v506 v507 v501
  let c0_i32_343 : BitVec 32 := 0#32
  let v514 : BitVec 1 := Scalar.cmpi .sgt v508 c0_i32_343
  let v515 : BitVec 32 := Scalar.extui v514
  let c0_i32_344 : BitVec 32 := 0#32
  let v516 : BitVec 1 := Scalar.cmpi .slt v508 c0_i32_344
  let v517 : BitVec 32 := Scalar.extui v516
  let v518 : BitVec 32 := Scalar.subi v515 v517
  let c2_i32_342 : BitVec 32 := 2#32
  let c0_i32_345 : BitVec 32 := 0#32
  let v519 : BitVec 1 := Scalar.cmpi .sgt c2_i32_342 c0_i32_345
  let v520 : BitVec 32 := Scalar.extui v519
  let c0_i32_346 : BitVec 32 := 0#32
  let v521 : BitVec 1 := Scalar.cmpi .slt c2_i32_342 c0_i32_346
  let v522 : BitVec 32 := Scalar.extui v521
  let v523 : BitVec 32 := Scalar.subi v520 v522
  let v524 : BitVec 1 := Scalar.cmpi .ne v518 v523
  let v525 : BitVec 32 := Scalar.remsi v508 c2_i32_342
  let c0_i32_347 : BitVec 32 := 0#32
  let v526 : BitVec 1 := Scalar.cmpi .ne v525 c0_i32_347
  let v527 : BitVec 1 := Scalar.andi v524 v526
  let v513 : BitVec 32 := Scalar.divsi v508 c2_i32_342
  let c1_i32_348 : BitVec 32 := 1#32
  let v528 : BitVec 32 := Scalar.subi v513 c1_i32_348
  let v529 : BitVec 32 := Scalar.select v527 v528 v513
  let c4_i32_359 : BitVec 32 := 4#32
  let v543 : BitVec 32 := Scalar.muli v529 c4_i32_359
  let v544 : BitVec 32 := Scalar.addi v542 v543
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_349 : BitVec 32 := 2#32
  let c0_i32_350 : BitVec 32 := 0#32
  let v530 : BitVec 1 := Scalar.cmpi .eq c2_i32_349 c0_i32_350
  let c1_i32_351 : BitVec 32 := 1#32
  let v531 : BitVec 32 := Scalar.select v530 c1_i32_351 c2_i32_349
  let v532 : BitVec 32 := Scalar.remsi v508 v531
  let c0_i32_353 : BitVec 32 := 0#32
  let v534 : BitVec 1 := Scalar.cmpi .slt v532 c0_i32_353
  let c0_i32_354 : BitVec 32 := 0#32
  let v535 : BitVec 1 := Scalar.cmpi .slt v531 c0_i32_354
  let v536 : BitVec 1 := Scalar.xori v534 v535
  let c0_i32_352 : BitVec 32 := 0#32
  let v533 : BitVec 1 := Scalar.cmpi .ne v532 c0_i32_352
  let v537 : BitVec 1 := Scalar.andi v536 v533
  let v538 : BitVec 32 := Scalar.addi v532 v531
  let v539 : BitVec 32 := Scalar.select v537 v538 v532
  let v540 : BitVec 32 := Scalar.addi v27 v539
  let c1_i32_360 : BitVec 32 := 1#32
  let v545 : BitVec 32 := Scalar.muli v540 c1_i32_360
  let v546 : BitVec 32 := Scalar.addi v544 v545
  v546.toNat
def k0_dev15 (d0 : Dev nD) : Nat :=
  let c0_i32_392 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_391 : BitVec 32 := 8#32
  let v598 : BitVec 32 := Scalar.muli v2 c8_i32_391
  let v599 : BitVec 32 := Scalar.addi c0_i32_392 v598
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32_365 : BitVec 32 := 3#32
  let v555 : BitVec 32 := Scalar.addi v39 c3_i32_365
  let c4_i32_366 : BitVec 32 := 4#32
  let c0_i32_367 : BitVec 32 := 0#32
  let v556 : BitVec 1 := Scalar.cmpi .eq c4_i32_366 c0_i32_367
  let c1_i32_368 : BitVec 32 := 1#32
  let v557 : BitVec 32 := Scalar.select v556 c1_i32_368 c4_i32_366
  let v558 : BitVec 32 := Scalar.remsi v555 v557
  let c0_i32_370 : BitVec 32 := 0#32
  let v560 : BitVec 1 := Scalar.cmpi .slt v558 c0_i32_370
  let c0_i32_371 : BitVec 32 := 0#32
  let v561 : BitVec 1 := Scalar.cmpi .slt v557 c0_i32_371
  let v562 : BitVec 1 := Scalar.xori v560 v561
  let c0_i32_369 : BitVec 32 := 0#32
  let v559 : BitVec 1 := Scalar.cmpi .ne v558 c0_i32_369
  let v563 : BitVec 1 := Scalar.andi v562 v559
  let v564 : BitVec 32 := Scalar.addi v558 v557
  let v565 : BitVec 32 := Scalar.select v563 v564 v558
  let c0_i32_377 : BitVec 32 := 0#32
  let v571 : BitVec 1 := Scalar.cmpi .sgt v565 c0_i32_377
  let v572 : BitVec 32 := Scalar.extui v571
  let c0_i32_378 : BitVec 32 := 0#32
  let v573 : BitVec 1 := Scalar.cmpi .slt v565 c0_i32_378
  let v574 : BitVec 32 := Scalar.extui v573
  let v575 : BitVec 32 := Scalar.subi v572 v574
  let c2_i32_376 : BitVec 32 := 2#32
  let c0_i32_379 : BitVec 32 := 0#32
  let v576 : BitVec 1 := Scalar.cmpi .sgt c2_i32_376 c0_i32_379
  let v577 : BitVec 32 := Scalar.extui v576
  let c0_i32_380 : BitVec 32 := 0#32
  let v578 : BitVec 1 := Scalar.cmpi .slt c2_i32_376 c0_i32_380
  let v579 : BitVec 32 := Scalar.extui v578
  let v580 : BitVec 32 := Scalar.subi v577 v579
  let v581 : BitVec 1 := Scalar.cmpi .ne v575 v580
  let v582 : BitVec 32 := Scalar.remsi v565 c2_i32_376
  let c0_i32_381 : BitVec 32 := 0#32
  let v583 : BitVec 1 := Scalar.cmpi .ne v582 c0_i32_381
  let v584 : BitVec 1 := Scalar.andi v581 v583
  let v570 : BitVec 32 := Scalar.divsi v565 c2_i32_376
  let c1_i32_382 : BitVec 32 := 1#32
  let v585 : BitVec 32 := Scalar.subi v570 c1_i32_382
  let v586 : BitVec 32 := Scalar.select v584 v585 v570
  let c4_i32_393 : BitVec 32 := 4#32
  let v600 : BitVec 32 := Scalar.muli v586 c4_i32_393
  let v601 : BitVec 32 := Scalar.addi v599 v600
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_383 : BitVec 32 := 2#32
  let c0_i32_384 : BitVec 32 := 0#32
  let v587 : BitVec 1 := Scalar.cmpi .eq c2_i32_383 c0_i32_384
  let c1_i32_385 : BitVec 32 := 1#32
  let v588 : BitVec 32 := Scalar.select v587 c1_i32_385 c2_i32_383
  let v589 : BitVec 32 := Scalar.remsi v565 v588
  let c0_i32_387 : BitVec 32 := 0#32
  let v591 : BitVec 1 := Scalar.cmpi .slt v589 c0_i32_387
  let c0_i32_388 : BitVec 32 := 0#32
  let v592 : BitVec 1 := Scalar.cmpi .slt v588 c0_i32_388
  let v593 : BitVec 1 := Scalar.xori v591 v592
  let c0_i32_386 : BitVec 32 := 0#32
  let v590 : BitVec 1 := Scalar.cmpi .ne v589 c0_i32_386
  let v594 : BitVec 1 := Scalar.andi v593 v590
  let v595 : BitVec 32 := Scalar.addi v589 v588
  let v596 : BitVec 32 := Scalar.select v594 v595 v589
  let v597 : BitVec 32 := Scalar.addi v27 v596
  let c1_i32_394 : BitVec 32 := 1#32
  let v602 : BitVec 32 := Scalar.muli v597 c1_i32_394
  let v603 : BitVec 32 := Scalar.addi v601 v602
  v603.toNat
def k0_off6 (d0 : Dev nD) (c1_i32_452 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v695 : BitVec 32 := Scalar.addi v39 c1_i32_452
  let c4_i32_453 : BitVec 32 := 4#32
  let c0_i32_454 : BitVec 32 := 0#32
  let v696 : BitVec 1 := Scalar.cmpi .eq c4_i32_453 c0_i32_454
  let c1_i32_455 : BitVec 32 := 1#32
  let v697 : BitVec 32 := Scalar.select v696 c1_i32_455 c4_i32_453
  let v698 : BitVec 32 := Scalar.remsi v695 v697
  let c0_i32_457 : BitVec 32 := 0#32
  let v700 : BitVec 1 := Scalar.cmpi .slt v698 c0_i32_457
  let c0_i32_458 : BitVec 32 := 0#32
  let v701 : BitVec 1 := Scalar.cmpi .slt v697 c0_i32_458
  let v702 : BitVec 1 := Scalar.xori v700 v701
  let c0_i32_456 : BitVec 32 := 0#32
  let v699 : BitVec 1 := Scalar.cmpi .ne v698 c0_i32_456
  let v703 : BitVec 1 := Scalar.andi v702 v699
  let v704 : BitVec 32 := Scalar.addi v698 v697
  let v705 : BitVec 32 := Scalar.select v703 v704 v698
  let c1_i32_477 : BitVec 32 := 1#32
  ![v705.toNat, 1]
def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_476 : BitVec 32 := 1#32
  ![v39.toNat, 1]
def k0_dev16 (d0 : Dev nD) : Nat :=
  let c0_i32_479 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_478 : BitVec 32 := 8#32
  let v738 : BitVec 32 := Scalar.muli v2 c8_i32_478
  let v739 : BitVec 32 := Scalar.addi c0_i32_479 v738
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_452 : BitVec 32 := 1#32
  let v695 : BitVec 32 := Scalar.addi v39 c1_i32_452
  let c4_i32_453 : BitVec 32 := 4#32
  let c0_i32_454 : BitVec 32 := 0#32
  let v696 : BitVec 1 := Scalar.cmpi .eq c4_i32_453 c0_i32_454
  let c1_i32_455 : BitVec 32 := 1#32
  let v697 : BitVec 32 := Scalar.select v696 c1_i32_455 c4_i32_453
  let v698 : BitVec 32 := Scalar.remsi v695 v697
  let c0_i32_457 : BitVec 32 := 0#32
  let v700 : BitVec 1 := Scalar.cmpi .slt v698 c0_i32_457
  let c0_i32_458 : BitVec 32 := 0#32
  let v701 : BitVec 1 := Scalar.cmpi .slt v697 c0_i32_458
  let v702 : BitVec 1 := Scalar.xori v700 v701
  let c0_i32_456 : BitVec 32 := 0#32
  let v699 : BitVec 1 := Scalar.cmpi .ne v698 c0_i32_456
  let v703 : BitVec 1 := Scalar.andi v702 v699
  let v704 : BitVec 32 := Scalar.addi v698 v697
  let v705 : BitVec 32 := Scalar.select v703 v704 v698
  let c0_i32_464 : BitVec 32 := 0#32
  let v711 : BitVec 1 := Scalar.cmpi .sgt v705 c0_i32_464
  let v712 : BitVec 32 := Scalar.extui v711
  let c0_i32_465 : BitVec 32 := 0#32
  let v713 : BitVec 1 := Scalar.cmpi .slt v705 c0_i32_465
  let v714 : BitVec 32 := Scalar.extui v713
  let v715 : BitVec 32 := Scalar.subi v712 v714
  let c2_i32_463 : BitVec 32 := 2#32
  let c0_i32_466 : BitVec 32 := 0#32
  let v716 : BitVec 1 := Scalar.cmpi .sgt c2_i32_463 c0_i32_466
  let v717 : BitVec 32 := Scalar.extui v716
  let c0_i32_467 : BitVec 32 := 0#32
  let v718 : BitVec 1 := Scalar.cmpi .slt c2_i32_463 c0_i32_467
  let v719 : BitVec 32 := Scalar.extui v718
  let v720 : BitVec 32 := Scalar.subi v717 v719
  let v721 : BitVec 1 := Scalar.cmpi .ne v715 v720
  let v722 : BitVec 32 := Scalar.remsi v705 c2_i32_463
  let c0_i32_468 : BitVec 32 := 0#32
  let v723 : BitVec 1 := Scalar.cmpi .ne v722 c0_i32_468
  let v724 : BitVec 1 := Scalar.andi v721 v723
  let v710 : BitVec 32 := Scalar.divsi v705 c2_i32_463
  let c1_i32_469 : BitVec 32 := 1#32
  let v725 : BitVec 32 := Scalar.subi v710 c1_i32_469
  let v726 : BitVec 32 := Scalar.select v724 v725 v710
  let c4_i32_480 : BitVec 32 := 4#32
  let v740 : BitVec 32 := Scalar.muli v726 c4_i32_480
  let v741 : BitVec 32 := Scalar.addi v739 v740
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_470 : BitVec 32 := 2#32
  let c0_i32_471 : BitVec 32 := 0#32
  let v727 : BitVec 1 := Scalar.cmpi .eq c2_i32_470 c0_i32_471
  let c1_i32_472 : BitVec 32 := 1#32
  let v728 : BitVec 32 := Scalar.select v727 c1_i32_472 c2_i32_470
  let v729 : BitVec 32 := Scalar.remsi v705 v728
  let c0_i32_474 : BitVec 32 := 0#32
  let v731 : BitVec 1 := Scalar.cmpi .slt v729 c0_i32_474
  let c0_i32_475 : BitVec 32 := 0#32
  let v732 : BitVec 1 := Scalar.cmpi .slt v728 c0_i32_475
  let v733 : BitVec 1 := Scalar.xori v731 v732
  let c0_i32_473 : BitVec 32 := 0#32
  let v730 : BitVec 1 := Scalar.cmpi .ne v729 c0_i32_473
  let v734 : BitVec 1 := Scalar.andi v733 v730
  let v735 : BitVec 32 := Scalar.addi v729 v728
  let v736 : BitVec 32 := Scalar.select v734 v735 v729
  let v737 : BitVec 32 := Scalar.addi v27 v736
  let c1_i32_481 : BitVec 32 := 1#32
  let v742 : BitVec 32 := Scalar.muli v737 c1_i32_481
  let v743 : BitVec 32 := Scalar.addi v741 v742
  v743.toNat
def k0_dev17 (d0 : Dev nD) : Nat :=
  let c0_i32_513 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_512 : BitVec 32 := 8#32
  let v795 : BitVec 32 := Scalar.muli v2 c8_i32_512
  let v796 : BitVec 32 := Scalar.addi c0_i32_513 v795
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_486 : BitVec 32 := 2#32
  let v752 : BitVec 32 := Scalar.addi v39 c2_i32_486
  let c4_i32_487 : BitVec 32 := 4#32
  let c0_i32_488 : BitVec 32 := 0#32
  let v753 : BitVec 1 := Scalar.cmpi .eq c4_i32_487 c0_i32_488
  let c1_i32_489 : BitVec 32 := 1#32
  let v754 : BitVec 32 := Scalar.select v753 c1_i32_489 c4_i32_487
  let v755 : BitVec 32 := Scalar.remsi v752 v754
  let c0_i32_491 : BitVec 32 := 0#32
  let v757 : BitVec 1 := Scalar.cmpi .slt v755 c0_i32_491
  let c0_i32_492 : BitVec 32 := 0#32
  let v758 : BitVec 1 := Scalar.cmpi .slt v754 c0_i32_492
  let v759 : BitVec 1 := Scalar.xori v757 v758
  let c0_i32_490 : BitVec 32 := 0#32
  let v756 : BitVec 1 := Scalar.cmpi .ne v755 c0_i32_490
  let v760 : BitVec 1 := Scalar.andi v759 v756
  let v761 : BitVec 32 := Scalar.addi v755 v754
  let v762 : BitVec 32 := Scalar.select v760 v761 v755
  let c0_i32_498 : BitVec 32 := 0#32
  let v768 : BitVec 1 := Scalar.cmpi .sgt v762 c0_i32_498
  let v769 : BitVec 32 := Scalar.extui v768
  let c0_i32_499 : BitVec 32 := 0#32
  let v770 : BitVec 1 := Scalar.cmpi .slt v762 c0_i32_499
  let v771 : BitVec 32 := Scalar.extui v770
  let v772 : BitVec 32 := Scalar.subi v769 v771
  let c2_i32_497 : BitVec 32 := 2#32
  let c0_i32_500 : BitVec 32 := 0#32
  let v773 : BitVec 1 := Scalar.cmpi .sgt c2_i32_497 c0_i32_500
  let v774 : BitVec 32 := Scalar.extui v773
  let c0_i32_501 : BitVec 32 := 0#32
  let v775 : BitVec 1 := Scalar.cmpi .slt c2_i32_497 c0_i32_501
  let v776 : BitVec 32 := Scalar.extui v775
  let v777 : BitVec 32 := Scalar.subi v774 v776
  let v778 : BitVec 1 := Scalar.cmpi .ne v772 v777
  let v779 : BitVec 32 := Scalar.remsi v762 c2_i32_497
  let c0_i32_502 : BitVec 32 := 0#32
  let v780 : BitVec 1 := Scalar.cmpi .ne v779 c0_i32_502
  let v781 : BitVec 1 := Scalar.andi v778 v780
  let v767 : BitVec 32 := Scalar.divsi v762 c2_i32_497
  let c1_i32_503 : BitVec 32 := 1#32
  let v782 : BitVec 32 := Scalar.subi v767 c1_i32_503
  let v783 : BitVec 32 := Scalar.select v781 v782 v767
  let c4_i32_514 : BitVec 32 := 4#32
  let v797 : BitVec 32 := Scalar.muli v783 c4_i32_514
  let v798 : BitVec 32 := Scalar.addi v796 v797
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_504 : BitVec 32 := 2#32
  let c0_i32_505 : BitVec 32 := 0#32
  let v784 : BitVec 1 := Scalar.cmpi .eq c2_i32_504 c0_i32_505
  let c1_i32_506 : BitVec 32 := 1#32
  let v785 : BitVec 32 := Scalar.select v784 c1_i32_506 c2_i32_504
  let v786 : BitVec 32 := Scalar.remsi v762 v785
  let c0_i32_508 : BitVec 32 := 0#32
  let v788 : BitVec 1 := Scalar.cmpi .slt v786 c0_i32_508
  let c0_i32_509 : BitVec 32 := 0#32
  let v789 : BitVec 1 := Scalar.cmpi .slt v785 c0_i32_509
  let v790 : BitVec 1 := Scalar.xori v788 v789
  let c0_i32_507 : BitVec 32 := 0#32
  let v787 : BitVec 1 := Scalar.cmpi .ne v786 c0_i32_507
  let v791 : BitVec 1 := Scalar.andi v790 v787
  let v792 : BitVec 32 := Scalar.addi v786 v785
  let v793 : BitVec 32 := Scalar.select v791 v792 v786
  let v794 : BitVec 32 := Scalar.addi v27 v793
  let c1_i32_515 : BitVec 32 := 1#32
  let v799 : BitVec 32 := Scalar.muli v794 c1_i32_515
  let v800 : BitVec 32 := Scalar.addi v798 v799
  v800.toNat
def k0_dev18 (d0 : Dev nD) : Nat :=
  let c0_i32_547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_546 : BitVec 32 := 8#32
  let v852 : BitVec 32 := Scalar.muli v2 c8_i32_546
  let v853 : BitVec 32 := Scalar.addi c0_i32_547 v852
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32_520 : BitVec 32 := 3#32
  let v809 : BitVec 32 := Scalar.addi v39 c3_i32_520
  let c4_i32_521 : BitVec 32 := 4#32
  let c0_i32_522 : BitVec 32 := 0#32
  let v810 : BitVec 1 := Scalar.cmpi .eq c4_i32_521 c0_i32_522
  let c1_i32_523 : BitVec 32 := 1#32
  let v811 : BitVec 32 := Scalar.select v810 c1_i32_523 c4_i32_521
  let v812 : BitVec 32 := Scalar.remsi v809 v811
  let c0_i32_525 : BitVec 32 := 0#32
  let v814 : BitVec 1 := Scalar.cmpi .slt v812 c0_i32_525
  let c0_i32_526 : BitVec 32 := 0#32
  let v815 : BitVec 1 := Scalar.cmpi .slt v811 c0_i32_526
  let v816 : BitVec 1 := Scalar.xori v814 v815
  let c0_i32_524 : BitVec 32 := 0#32
  let v813 : BitVec 1 := Scalar.cmpi .ne v812 c0_i32_524
  let v817 : BitVec 1 := Scalar.andi v816 v813
  let v818 : BitVec 32 := Scalar.addi v812 v811
  let v819 : BitVec 32 := Scalar.select v817 v818 v812
  let c0_i32_532 : BitVec 32 := 0#32
  let v825 : BitVec 1 := Scalar.cmpi .sgt v819 c0_i32_532
  let v826 : BitVec 32 := Scalar.extui v825
  let c0_i32_533 : BitVec 32 := 0#32
  let v827 : BitVec 1 := Scalar.cmpi .slt v819 c0_i32_533
  let v828 : BitVec 32 := Scalar.extui v827
  let v829 : BitVec 32 := Scalar.subi v826 v828
  let c2_i32_531 : BitVec 32 := 2#32
  let c0_i32_534 : BitVec 32 := 0#32
  let v830 : BitVec 1 := Scalar.cmpi .sgt c2_i32_531 c0_i32_534
  let v831 : BitVec 32 := Scalar.extui v830
  let c0_i32_535 : BitVec 32 := 0#32
  let v832 : BitVec 1 := Scalar.cmpi .slt c2_i32_531 c0_i32_535
  let v833 : BitVec 32 := Scalar.extui v832
  let v834 : BitVec 32 := Scalar.subi v831 v833
  let v835 : BitVec 1 := Scalar.cmpi .ne v829 v834
  let v836 : BitVec 32 := Scalar.remsi v819 c2_i32_531
  let c0_i32_536 : BitVec 32 := 0#32
  let v837 : BitVec 1 := Scalar.cmpi .ne v836 c0_i32_536
  let v838 : BitVec 1 := Scalar.andi v835 v837
  let v824 : BitVec 32 := Scalar.divsi v819 c2_i32_531
  let c1_i32_537 : BitVec 32 := 1#32
  let v839 : BitVec 32 := Scalar.subi v824 c1_i32_537
  let v840 : BitVec 32 := Scalar.select v838 v839 v824
  let c4_i32_548 : BitVec 32 := 4#32
  let v854 : BitVec 32 := Scalar.muli v840 c4_i32_548
  let v855 : BitVec 32 := Scalar.addi v853 v854
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_538 : BitVec 32 := 2#32
  let c0_i32_539 : BitVec 32 := 0#32
  let v841 : BitVec 1 := Scalar.cmpi .eq c2_i32_538 c0_i32_539
  let c1_i32_540 : BitVec 32 := 1#32
  let v842 : BitVec 32 := Scalar.select v841 c1_i32_540 c2_i32_538
  let v843 : BitVec 32 := Scalar.remsi v819 v842
  let c0_i32_542 : BitVec 32 := 0#32
  let v845 : BitVec 1 := Scalar.cmpi .slt v843 c0_i32_542
  let c0_i32_543 : BitVec 32 := 0#32
  let v846 : BitVec 1 := Scalar.cmpi .slt v842 c0_i32_543
  let v847 : BitVec 1 := Scalar.xori v845 v846
  let c0_i32_541 : BitVec 32 := 0#32
  let v844 : BitVec 1 := Scalar.cmpi .ne v843 c0_i32_541
  let v848 : BitVec 1 := Scalar.andi v847 v844
  let v849 : BitVec 32 := Scalar.addi v843 v842
  let v850 : BitVec 32 := Scalar.select v848 v849 v843
  let v851 : BitVec 32 := Scalar.addi v27 v850
  let c1_i32_549 : BitVec 32 := 1#32
  let v856 : BitVec 32 := Scalar.muli v851 c1_i32_549
  let v857 : BitVec 32 := Scalar.addi v855 v856
  v857.toNat
def k0_off8 (d0 : Dev nD) (c1_i32_607 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v949 : BitVec 32 := Scalar.addi v39 c1_i32_607
  let c4_i32_608 : BitVec 32 := 4#32
  let c0_i32_609 : BitVec 32 := 0#32
  let v950 : BitVec 1 := Scalar.cmpi .eq c4_i32_608 c0_i32_609
  let c1_i32_610 : BitVec 32 := 1#32
  let v951 : BitVec 32 := Scalar.select v950 c1_i32_610 c4_i32_608
  let v952 : BitVec 32 := Scalar.remsi v949 v951
  let c0_i32_612 : BitVec 32 := 0#32
  let v954 : BitVec 1 := Scalar.cmpi .slt v952 c0_i32_612
  let c0_i32_613 : BitVec 32 := 0#32
  let v955 : BitVec 1 := Scalar.cmpi .slt v951 c0_i32_613
  let v956 : BitVec 1 := Scalar.xori v954 v955
  let c0_i32_611 : BitVec 32 := 0#32
  let v953 : BitVec 1 := Scalar.cmpi .ne v952 c0_i32_611
  let v957 : BitVec 1 := Scalar.andi v956 v953
  let v958 : BitVec 32 := Scalar.addi v952 v951
  let v959 : BitVec 32 := Scalar.select v957 v958 v952
  let c2_i32_632 : BitVec 32 := 2#32
  ![v959.toNat, 2]
def k0_off9 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_631 : BitVec 32 := 2#32
  ![v39.toNat, 2]
def k0_dev19 (d0 : Dev nD) : Nat :=
  let c0_i32_634 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_633 : BitVec 32 := 8#32
  let v992 : BitVec 32 := Scalar.muli v2 c8_i32_633
  let v993 : BitVec 32 := Scalar.addi c0_i32_634 v992
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_607 : BitVec 32 := 1#32
  let v949 : BitVec 32 := Scalar.addi v39 c1_i32_607
  let c4_i32_608 : BitVec 32 := 4#32
  let c0_i32_609 : BitVec 32 := 0#32
  let v950 : BitVec 1 := Scalar.cmpi .eq c4_i32_608 c0_i32_609
  let c1_i32_610 : BitVec 32 := 1#32
  let v951 : BitVec 32 := Scalar.select v950 c1_i32_610 c4_i32_608
  let v952 : BitVec 32 := Scalar.remsi v949 v951
  let c0_i32_612 : BitVec 32 := 0#32
  let v954 : BitVec 1 := Scalar.cmpi .slt v952 c0_i32_612
  let c0_i32_613 : BitVec 32 := 0#32
  let v955 : BitVec 1 := Scalar.cmpi .slt v951 c0_i32_613
  let v956 : BitVec 1 := Scalar.xori v954 v955
  let c0_i32_611 : BitVec 32 := 0#32
  let v953 : BitVec 1 := Scalar.cmpi .ne v952 c0_i32_611
  let v957 : BitVec 1 := Scalar.andi v956 v953
  let v958 : BitVec 32 := Scalar.addi v952 v951
  let v959 : BitVec 32 := Scalar.select v957 v958 v952
  let c0_i32_619 : BitVec 32 := 0#32
  let v965 : BitVec 1 := Scalar.cmpi .sgt v959 c0_i32_619
  let v966 : BitVec 32 := Scalar.extui v965
  let c0_i32_620 : BitVec 32 := 0#32
  let v967 : BitVec 1 := Scalar.cmpi .slt v959 c0_i32_620
  let v968 : BitVec 32 := Scalar.extui v967
  let v969 : BitVec 32 := Scalar.subi v966 v968
  let c2_i32_618 : BitVec 32 := 2#32
  let c0_i32_621 : BitVec 32 := 0#32
  let v970 : BitVec 1 := Scalar.cmpi .sgt c2_i32_618 c0_i32_621
  let v971 : BitVec 32 := Scalar.extui v970
  let c0_i32_622 : BitVec 32 := 0#32
  let v972 : BitVec 1 := Scalar.cmpi .slt c2_i32_618 c0_i32_622
  let v973 : BitVec 32 := Scalar.extui v972
  let v974 : BitVec 32 := Scalar.subi v971 v973
  let v975 : BitVec 1 := Scalar.cmpi .ne v969 v974
  let v976 : BitVec 32 := Scalar.remsi v959 c2_i32_618
  let c0_i32_623 : BitVec 32 := 0#32
  let v977 : BitVec 1 := Scalar.cmpi .ne v976 c0_i32_623
  let v978 : BitVec 1 := Scalar.andi v975 v977
  let v964 : BitVec 32 := Scalar.divsi v959 c2_i32_618
  let c1_i32_624 : BitVec 32 := 1#32
  let v979 : BitVec 32 := Scalar.subi v964 c1_i32_624
  let v980 : BitVec 32 := Scalar.select v978 v979 v964
  let c4_i32_635 : BitVec 32 := 4#32
  let v994 : BitVec 32 := Scalar.muli v980 c4_i32_635
  let v995 : BitVec 32 := Scalar.addi v993 v994
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_625 : BitVec 32 := 2#32
  let c0_i32_626 : BitVec 32 := 0#32
  let v981 : BitVec 1 := Scalar.cmpi .eq c2_i32_625 c0_i32_626
  let c1_i32_627 : BitVec 32 := 1#32
  let v982 : BitVec 32 := Scalar.select v981 c1_i32_627 c2_i32_625
  let v983 : BitVec 32 := Scalar.remsi v959 v982
  let c0_i32_629 : BitVec 32 := 0#32
  let v985 : BitVec 1 := Scalar.cmpi .slt v983 c0_i32_629
  let c0_i32_630 : BitVec 32 := 0#32
  let v986 : BitVec 1 := Scalar.cmpi .slt v982 c0_i32_630
  let v987 : BitVec 1 := Scalar.xori v985 v986
  let c0_i32_628 : BitVec 32 := 0#32
  let v984 : BitVec 1 := Scalar.cmpi .ne v983 c0_i32_628
  let v988 : BitVec 1 := Scalar.andi v987 v984
  let v989 : BitVec 32 := Scalar.addi v983 v982
  let v990 : BitVec 32 := Scalar.select v988 v989 v983
  let v991 : BitVec 32 := Scalar.addi v27 v990
  let c1_i32_636 : BitVec 32 := 1#32
  let v996 : BitVec 32 := Scalar.muli v991 c1_i32_636
  let v997 : BitVec 32 := Scalar.addi v995 v996
  v997.toNat
def k0_dev20 (d0 : Dev nD) : Nat :=
  let c0_i32_668 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_667 : BitVec 32 := 8#32
  let v1049 : BitVec 32 := Scalar.muli v2 c8_i32_667
  let v1050 : BitVec 32 := Scalar.addi c0_i32_668 v1049
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_641 : BitVec 32 := 2#32
  let v1006 : BitVec 32 := Scalar.addi v39 c2_i32_641
  let c4_i32_642 : BitVec 32 := 4#32
  let c0_i32_643 : BitVec 32 := 0#32
  let v1007 : BitVec 1 := Scalar.cmpi .eq c4_i32_642 c0_i32_643
  let c1_i32_644 : BitVec 32 := 1#32
  let v1008 : BitVec 32 := Scalar.select v1007 c1_i32_644 c4_i32_642
  let v1009 : BitVec 32 := Scalar.remsi v1006 v1008
  let c0_i32_646 : BitVec 32 := 0#32
  let v1011 : BitVec 1 := Scalar.cmpi .slt v1009 c0_i32_646
  let c0_i32_647 : BitVec 32 := 0#32
  let v1012 : BitVec 1 := Scalar.cmpi .slt v1008 c0_i32_647
  let v1013 : BitVec 1 := Scalar.xori v1011 v1012
  let c0_i32_645 : BitVec 32 := 0#32
  let v1010 : BitVec 1 := Scalar.cmpi .ne v1009 c0_i32_645
  let v1014 : BitVec 1 := Scalar.andi v1013 v1010
  let v1015 : BitVec 32 := Scalar.addi v1009 v1008
  let v1016 : BitVec 32 := Scalar.select v1014 v1015 v1009
  let c0_i32_653 : BitVec 32 := 0#32
  let v1022 : BitVec 1 := Scalar.cmpi .sgt v1016 c0_i32_653
  let v1023 : BitVec 32 := Scalar.extui v1022
  let c0_i32_654 : BitVec 32 := 0#32
  let v1024 : BitVec 1 := Scalar.cmpi .slt v1016 c0_i32_654
  let v1025 : BitVec 32 := Scalar.extui v1024
  let v1026 : BitVec 32 := Scalar.subi v1023 v1025
  let c2_i32_652 : BitVec 32 := 2#32
  let c0_i32_655 : BitVec 32 := 0#32
  let v1027 : BitVec 1 := Scalar.cmpi .sgt c2_i32_652 c0_i32_655
  let v1028 : BitVec 32 := Scalar.extui v1027
  let c0_i32_656 : BitVec 32 := 0#32
  let v1029 : BitVec 1 := Scalar.cmpi .slt c2_i32_652 c0_i32_656
  let v1030 : BitVec 32 := Scalar.extui v1029
  let v1031 : BitVec 32 := Scalar.subi v1028 v1030
  let v1032 : BitVec 1 := Scalar.cmpi .ne v1026 v1031
  let v1033 : BitVec 32 := Scalar.remsi v1016 c2_i32_652
  let c0_i32_657 : BitVec 32 := 0#32
  let v1034 : BitVec 1 := Scalar.cmpi .ne v1033 c0_i32_657
  let v1035 : BitVec 1 := Scalar.andi v1032 v1034
  let v1021 : BitVec 32 := Scalar.divsi v1016 c2_i32_652
  let c1_i32_658 : BitVec 32 := 1#32
  let v1036 : BitVec 32 := Scalar.subi v1021 c1_i32_658
  let v1037 : BitVec 32 := Scalar.select v1035 v1036 v1021
  let c4_i32_669 : BitVec 32 := 4#32
  let v1051 : BitVec 32 := Scalar.muli v1037 c4_i32_669
  let v1052 : BitVec 32 := Scalar.addi v1050 v1051
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_659 : BitVec 32 := 2#32
  let c0_i32_660 : BitVec 32 := 0#32
  let v1038 : BitVec 1 := Scalar.cmpi .eq c2_i32_659 c0_i32_660
  let c1_i32_661 : BitVec 32 := 1#32
  let v1039 : BitVec 32 := Scalar.select v1038 c1_i32_661 c2_i32_659
  let v1040 : BitVec 32 := Scalar.remsi v1016 v1039
  let c0_i32_663 : BitVec 32 := 0#32
  let v1042 : BitVec 1 := Scalar.cmpi .slt v1040 c0_i32_663
  let c0_i32_664 : BitVec 32 := 0#32
  let v1043 : BitVec 1 := Scalar.cmpi .slt v1039 c0_i32_664
  let v1044 : BitVec 1 := Scalar.xori v1042 v1043
  let c0_i32_662 : BitVec 32 := 0#32
  let v1041 : BitVec 1 := Scalar.cmpi .ne v1040 c0_i32_662
  let v1045 : BitVec 1 := Scalar.andi v1044 v1041
  let v1046 : BitVec 32 := Scalar.addi v1040 v1039
  let v1047 : BitVec 32 := Scalar.select v1045 v1046 v1040
  let v1048 : BitVec 32 := Scalar.addi v27 v1047
  let c1_i32_670 : BitVec 32 := 1#32
  let v1053 : BitVec 32 := Scalar.muli v1048 c1_i32_670
  let v1054 : BitVec 32 := Scalar.addi v1052 v1053
  v1054.toNat
def k0_dev21 (d0 : Dev nD) : Nat :=
  let c0_i32_702 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_701 : BitVec 32 := 8#32
  let v1106 : BitVec 32 := Scalar.muli v2 c8_i32_701
  let v1107 : BitVec 32 := Scalar.addi c0_i32_702 v1106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32_675 : BitVec 32 := 3#32
  let v1063 : BitVec 32 := Scalar.addi v39 c3_i32_675
  let c4_i32_676 : BitVec 32 := 4#32
  let c0_i32_677 : BitVec 32 := 0#32
  let v1064 : BitVec 1 := Scalar.cmpi .eq c4_i32_676 c0_i32_677
  let c1_i32_678 : BitVec 32 := 1#32
  let v1065 : BitVec 32 := Scalar.select v1064 c1_i32_678 c4_i32_676
  let v1066 : BitVec 32 := Scalar.remsi v1063 v1065
  let c0_i32_680 : BitVec 32 := 0#32
  let v1068 : BitVec 1 := Scalar.cmpi .slt v1066 c0_i32_680
  let c0_i32_681 : BitVec 32 := 0#32
  let v1069 : BitVec 1 := Scalar.cmpi .slt v1065 c0_i32_681
  let v1070 : BitVec 1 := Scalar.xori v1068 v1069
  let c0_i32_679 : BitVec 32 := 0#32
  let v1067 : BitVec 1 := Scalar.cmpi .ne v1066 c0_i32_679
  let v1071 : BitVec 1 := Scalar.andi v1070 v1067
  let v1072 : BitVec 32 := Scalar.addi v1066 v1065
  let v1073 : BitVec 32 := Scalar.select v1071 v1072 v1066
  let c0_i32_687 : BitVec 32 := 0#32
  let v1079 : BitVec 1 := Scalar.cmpi .sgt v1073 c0_i32_687
  let v1080 : BitVec 32 := Scalar.extui v1079
  let c0_i32_688 : BitVec 32 := 0#32
  let v1081 : BitVec 1 := Scalar.cmpi .slt v1073 c0_i32_688
  let v1082 : BitVec 32 := Scalar.extui v1081
  let v1083 : BitVec 32 := Scalar.subi v1080 v1082
  let c2_i32_686 : BitVec 32 := 2#32
  let c0_i32_689 : BitVec 32 := 0#32
  let v1084 : BitVec 1 := Scalar.cmpi .sgt c2_i32_686 c0_i32_689
  let v1085 : BitVec 32 := Scalar.extui v1084
  let c0_i32_690 : BitVec 32 := 0#32
  let v1086 : BitVec 1 := Scalar.cmpi .slt c2_i32_686 c0_i32_690
  let v1087 : BitVec 32 := Scalar.extui v1086
  let v1088 : BitVec 32 := Scalar.subi v1085 v1087
  let v1089 : BitVec 1 := Scalar.cmpi .ne v1083 v1088
  let v1090 : BitVec 32 := Scalar.remsi v1073 c2_i32_686
  let c0_i32_691 : BitVec 32 := 0#32
  let v1091 : BitVec 1 := Scalar.cmpi .ne v1090 c0_i32_691
  let v1092 : BitVec 1 := Scalar.andi v1089 v1091
  let v1078 : BitVec 32 := Scalar.divsi v1073 c2_i32_686
  let c1_i32_692 : BitVec 32 := 1#32
  let v1093 : BitVec 32 := Scalar.subi v1078 c1_i32_692
  let v1094 : BitVec 32 := Scalar.select v1092 v1093 v1078
  let c4_i32_703 : BitVec 32 := 4#32
  let v1108 : BitVec 32 := Scalar.muli v1094 c4_i32_703
  let v1109 : BitVec 32 := Scalar.addi v1107 v1108
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_693 : BitVec 32 := 2#32
  let c0_i32_694 : BitVec 32 := 0#32
  let v1095 : BitVec 1 := Scalar.cmpi .eq c2_i32_693 c0_i32_694
  let c1_i32_695 : BitVec 32 := 1#32
  let v1096 : BitVec 32 := Scalar.select v1095 c1_i32_695 c2_i32_693
  let v1097 : BitVec 32 := Scalar.remsi v1073 v1096
  let c0_i32_697 : BitVec 32 := 0#32
  let v1099 : BitVec 1 := Scalar.cmpi .slt v1097 c0_i32_697
  let c0_i32_698 : BitVec 32 := 0#32
  let v1100 : BitVec 1 := Scalar.cmpi .slt v1096 c0_i32_698
  let v1101 : BitVec 1 := Scalar.xori v1099 v1100
  let c0_i32_696 : BitVec 32 := 0#32
  let v1098 : BitVec 1 := Scalar.cmpi .ne v1097 c0_i32_696
  let v1102 : BitVec 1 := Scalar.andi v1101 v1098
  let v1103 : BitVec 32 := Scalar.addi v1097 v1096
  let v1104 : BitVec 32 := Scalar.select v1102 v1103 v1097
  let v1105 : BitVec 32 := Scalar.addi v27 v1104
  let c1_i32_704 : BitVec 32 := 1#32
  let v1110 : BitVec 32 := Scalar.muli v1105 c1_i32_704
  let v1111 : BitVec 32 := Scalar.addi v1109 v1110
  v1111.toNat
def k0_off10 (d0 : Dev nD) (c1_i32_762 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v1203 : BitVec 32 := Scalar.addi v39 c1_i32_762
  let c4_i32_763 : BitVec 32 := 4#32
  let c0_i32_764 : BitVec 32 := 0#32
  let v1204 : BitVec 1 := Scalar.cmpi .eq c4_i32_763 c0_i32_764
  let c1_i32_765 : BitVec 32 := 1#32
  let v1205 : BitVec 32 := Scalar.select v1204 c1_i32_765 c4_i32_763
  let v1206 : BitVec 32 := Scalar.remsi v1203 v1205
  let c0_i32_767 : BitVec 32 := 0#32
  let v1208 : BitVec 1 := Scalar.cmpi .slt v1206 c0_i32_767
  let c0_i32_768 : BitVec 32 := 0#32
  let v1209 : BitVec 1 := Scalar.cmpi .slt v1205 c0_i32_768
  let v1210 : BitVec 1 := Scalar.xori v1208 v1209
  let c0_i32_766 : BitVec 32 := 0#32
  let v1207 : BitVec 1 := Scalar.cmpi .ne v1206 c0_i32_766
  let v1211 : BitVec 1 := Scalar.andi v1210 v1207
  let v1212 : BitVec 32 := Scalar.addi v1206 v1205
  let v1213 : BitVec 32 := Scalar.select v1211 v1212 v1206
  let c3_i32_787 : BitVec 32 := 3#32
  ![v1213.toNat, 3]
def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32_786 : BitVec 32 := 3#32
  ![v39.toNat, 3]
def k0_dev22 (d0 : Dev nD) : Nat :=
  let c0_i32_789 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_788 : BitVec 32 := 8#32
  let v1246 : BitVec 32 := Scalar.muli v2 c8_i32_788
  let v1247 : BitVec 32 := Scalar.addi c0_i32_789 v1246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c1_i32_762 : BitVec 32 := 1#32
  let v1203 : BitVec 32 := Scalar.addi v39 c1_i32_762
  let c4_i32_763 : BitVec 32 := 4#32
  let c0_i32_764 : BitVec 32 := 0#32
  let v1204 : BitVec 1 := Scalar.cmpi .eq c4_i32_763 c0_i32_764
  let c1_i32_765 : BitVec 32 := 1#32
  let v1205 : BitVec 32 := Scalar.select v1204 c1_i32_765 c4_i32_763
  let v1206 : BitVec 32 := Scalar.remsi v1203 v1205
  let c0_i32_767 : BitVec 32 := 0#32
  let v1208 : BitVec 1 := Scalar.cmpi .slt v1206 c0_i32_767
  let c0_i32_768 : BitVec 32 := 0#32
  let v1209 : BitVec 1 := Scalar.cmpi .slt v1205 c0_i32_768
  let v1210 : BitVec 1 := Scalar.xori v1208 v1209
  let c0_i32_766 : BitVec 32 := 0#32
  let v1207 : BitVec 1 := Scalar.cmpi .ne v1206 c0_i32_766
  let v1211 : BitVec 1 := Scalar.andi v1210 v1207
  let v1212 : BitVec 32 := Scalar.addi v1206 v1205
  let v1213 : BitVec 32 := Scalar.select v1211 v1212 v1206
  let c0_i32_774 : BitVec 32 := 0#32
  let v1219 : BitVec 1 := Scalar.cmpi .sgt v1213 c0_i32_774
  let v1220 : BitVec 32 := Scalar.extui v1219
  let c0_i32_775 : BitVec 32 := 0#32
  let v1221 : BitVec 1 := Scalar.cmpi .slt v1213 c0_i32_775
  let v1222 : BitVec 32 := Scalar.extui v1221
  let v1223 : BitVec 32 := Scalar.subi v1220 v1222
  let c2_i32_773 : BitVec 32 := 2#32
  let c0_i32_776 : BitVec 32 := 0#32
  let v1224 : BitVec 1 := Scalar.cmpi .sgt c2_i32_773 c0_i32_776
  let v1225 : BitVec 32 := Scalar.extui v1224
  let c0_i32_777 : BitVec 32 := 0#32
  let v1226 : BitVec 1 := Scalar.cmpi .slt c2_i32_773 c0_i32_777
  let v1227 : BitVec 32 := Scalar.extui v1226
  let v1228 : BitVec 32 := Scalar.subi v1225 v1227
  let v1229 : BitVec 1 := Scalar.cmpi .ne v1223 v1228
  let v1230 : BitVec 32 := Scalar.remsi v1213 c2_i32_773
  let c0_i32_778 : BitVec 32 := 0#32
  let v1231 : BitVec 1 := Scalar.cmpi .ne v1230 c0_i32_778
  let v1232 : BitVec 1 := Scalar.andi v1229 v1231
  let v1218 : BitVec 32 := Scalar.divsi v1213 c2_i32_773
  let c1_i32_779 : BitVec 32 := 1#32
  let v1233 : BitVec 32 := Scalar.subi v1218 c1_i32_779
  let v1234 : BitVec 32 := Scalar.select v1232 v1233 v1218
  let c4_i32_790 : BitVec 32 := 4#32
  let v1248 : BitVec 32 := Scalar.muli v1234 c4_i32_790
  let v1249 : BitVec 32 := Scalar.addi v1247 v1248
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_780 : BitVec 32 := 2#32
  let c0_i32_781 : BitVec 32 := 0#32
  let v1235 : BitVec 1 := Scalar.cmpi .eq c2_i32_780 c0_i32_781
  let c1_i32_782 : BitVec 32 := 1#32
  let v1236 : BitVec 32 := Scalar.select v1235 c1_i32_782 c2_i32_780
  let v1237 : BitVec 32 := Scalar.remsi v1213 v1236
  let c0_i32_784 : BitVec 32 := 0#32
  let v1239 : BitVec 1 := Scalar.cmpi .slt v1237 c0_i32_784
  let c0_i32_785 : BitVec 32 := 0#32
  let v1240 : BitVec 1 := Scalar.cmpi .slt v1236 c0_i32_785
  let v1241 : BitVec 1 := Scalar.xori v1239 v1240
  let c0_i32_783 : BitVec 32 := 0#32
  let v1238 : BitVec 1 := Scalar.cmpi .ne v1237 c0_i32_783
  let v1242 : BitVec 1 := Scalar.andi v1241 v1238
  let v1243 : BitVec 32 := Scalar.addi v1237 v1236
  let v1244 : BitVec 32 := Scalar.select v1242 v1243 v1237
  let v1245 : BitVec 32 := Scalar.addi v27 v1244
  let c1_i32_791 : BitVec 32 := 1#32
  let v1250 : BitVec 32 := Scalar.muli v1245 c1_i32_791
  let v1251 : BitVec 32 := Scalar.addi v1249 v1250
  v1251.toNat
def k0_dev23 (d0 : Dev nD) : Nat :=
  let c0_i32_823 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_822 : BitVec 32 := 8#32
  let v1303 : BitVec 32 := Scalar.muli v2 c8_i32_822
  let v1304 : BitVec 32 := Scalar.addi c0_i32_823 v1303
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c2_i32_796 : BitVec 32 := 2#32
  let v1260 : BitVec 32 := Scalar.addi v39 c2_i32_796
  let c4_i32_797 : BitVec 32 := 4#32
  let c0_i32_798 : BitVec 32 := 0#32
  let v1261 : BitVec 1 := Scalar.cmpi .eq c4_i32_797 c0_i32_798
  let c1_i32_799 : BitVec 32 := 1#32
  let v1262 : BitVec 32 := Scalar.select v1261 c1_i32_799 c4_i32_797
  let v1263 : BitVec 32 := Scalar.remsi v1260 v1262
  let c0_i32_801 : BitVec 32 := 0#32
  let v1265 : BitVec 1 := Scalar.cmpi .slt v1263 c0_i32_801
  let c0_i32_802 : BitVec 32 := 0#32
  let v1266 : BitVec 1 := Scalar.cmpi .slt v1262 c0_i32_802
  let v1267 : BitVec 1 := Scalar.xori v1265 v1266
  let c0_i32_800 : BitVec 32 := 0#32
  let v1264 : BitVec 1 := Scalar.cmpi .ne v1263 c0_i32_800
  let v1268 : BitVec 1 := Scalar.andi v1267 v1264
  let v1269 : BitVec 32 := Scalar.addi v1263 v1262
  let v1270 : BitVec 32 := Scalar.select v1268 v1269 v1263
  let c0_i32_808 : BitVec 32 := 0#32
  let v1276 : BitVec 1 := Scalar.cmpi .sgt v1270 c0_i32_808
  let v1277 : BitVec 32 := Scalar.extui v1276
  let c0_i32_809 : BitVec 32 := 0#32
  let v1278 : BitVec 1 := Scalar.cmpi .slt v1270 c0_i32_809
  let v1279 : BitVec 32 := Scalar.extui v1278
  let v1280 : BitVec 32 := Scalar.subi v1277 v1279
  let c2_i32_807 : BitVec 32 := 2#32
  let c0_i32_810 : BitVec 32 := 0#32
  let v1281 : BitVec 1 := Scalar.cmpi .sgt c2_i32_807 c0_i32_810
  let v1282 : BitVec 32 := Scalar.extui v1281
  let c0_i32_811 : BitVec 32 := 0#32
  let v1283 : BitVec 1 := Scalar.cmpi .slt c2_i32_807 c0_i32_811
  let v1284 : BitVec 32 := Scalar.extui v1283
  let v1285 : BitVec 32 := Scalar.subi v1282 v1284
  let v1286 : BitVec 1 := Scalar.cmpi .ne v1280 v1285
  let v1287 : BitVec 32 := Scalar.remsi v1270 c2_i32_807
  let c0_i32_812 : BitVec 32 := 0#32
  let v1288 : BitVec 1 := Scalar.cmpi .ne v1287 c0_i32_812
  let v1289 : BitVec 1 := Scalar.andi v1286 v1288
  let v1275 : BitVec 32 := Scalar.divsi v1270 c2_i32_807
  let c1_i32_813 : BitVec 32 := 1#32
  let v1290 : BitVec 32 := Scalar.subi v1275 c1_i32_813
  let v1291 : BitVec 32 := Scalar.select v1289 v1290 v1275
  let c4_i32_824 : BitVec 32 := 4#32
  let v1305 : BitVec 32 := Scalar.muli v1291 c4_i32_824
  let v1306 : BitVec 32 := Scalar.addi v1304 v1305
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_814 : BitVec 32 := 2#32
  let c0_i32_815 : BitVec 32 := 0#32
  let v1292 : BitVec 1 := Scalar.cmpi .eq c2_i32_814 c0_i32_815
  let c1_i32_816 : BitVec 32 := 1#32
  let v1293 : BitVec 32 := Scalar.select v1292 c1_i32_816 c2_i32_814
  let v1294 : BitVec 32 := Scalar.remsi v1270 v1293
  let c0_i32_818 : BitVec 32 := 0#32
  let v1296 : BitVec 1 := Scalar.cmpi .slt v1294 c0_i32_818
  let c0_i32_819 : BitVec 32 := 0#32
  let v1297 : BitVec 1 := Scalar.cmpi .slt v1293 c0_i32_819
  let v1298 : BitVec 1 := Scalar.xori v1296 v1297
  let c0_i32_817 : BitVec 32 := 0#32
  let v1295 : BitVec 1 := Scalar.cmpi .ne v1294 c0_i32_817
  let v1299 : BitVec 1 := Scalar.andi v1298 v1295
  let v1300 : BitVec 32 := Scalar.addi v1294 v1293
  let v1301 : BitVec 32 := Scalar.select v1299 v1300 v1294
  let v1302 : BitVec 32 := Scalar.addi v27 v1301
  let c1_i32_825 : BitVec 32 := 1#32
  let v1307 : BitVec 32 := Scalar.muli v1302 c1_i32_825
  let v1308 : BitVec 32 := Scalar.addi v1306 v1307
  v1308.toNat
def k0_dev24 (d0 : Dev nD) : Nat :=
  let c0_i32_857 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_856 : BitVec 32 := 8#32
  let v1360 : BitVec 32 := Scalar.muli v2 c8_i32_856
  let v1361 : BitVec 32 := Scalar.addi c0_i32_857 v1360
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let c3_i32_830 : BitVec 32 := 3#32
  let v1317 : BitVec 32 := Scalar.addi v39 c3_i32_830
  let c4_i32_831 : BitVec 32 := 4#32
  let c0_i32_832 : BitVec 32 := 0#32
  let v1318 : BitVec 1 := Scalar.cmpi .eq c4_i32_831 c0_i32_832
  let c1_i32_833 : BitVec 32 := 1#32
  let v1319 : BitVec 32 := Scalar.select v1318 c1_i32_833 c4_i32_831
  let v1320 : BitVec 32 := Scalar.remsi v1317 v1319
  let c0_i32_835 : BitVec 32 := 0#32
  let v1322 : BitVec 1 := Scalar.cmpi .slt v1320 c0_i32_835
  let c0_i32_836 : BitVec 32 := 0#32
  let v1323 : BitVec 1 := Scalar.cmpi .slt v1319 c0_i32_836
  let v1324 : BitVec 1 := Scalar.xori v1322 v1323
  let c0_i32_834 : BitVec 32 := 0#32
  let v1321 : BitVec 1 := Scalar.cmpi .ne v1320 c0_i32_834
  let v1325 : BitVec 1 := Scalar.andi v1324 v1321
  let v1326 : BitVec 32 := Scalar.addi v1320 v1319
  let v1327 : BitVec 32 := Scalar.select v1325 v1326 v1320
  let c0_i32_842 : BitVec 32 := 0#32
  let v1333 : BitVec 1 := Scalar.cmpi .sgt v1327 c0_i32_842
  let v1334 : BitVec 32 := Scalar.extui v1333
  let c0_i32_843 : BitVec 32 := 0#32
  let v1335 : BitVec 1 := Scalar.cmpi .slt v1327 c0_i32_843
  let v1336 : BitVec 32 := Scalar.extui v1335
  let v1337 : BitVec 32 := Scalar.subi v1334 v1336
  let c2_i32_841 : BitVec 32 := 2#32
  let c0_i32_844 : BitVec 32 := 0#32
  let v1338 : BitVec 1 := Scalar.cmpi .sgt c2_i32_841 c0_i32_844
  let v1339 : BitVec 32 := Scalar.extui v1338
  let c0_i32_845 : BitVec 32 := 0#32
  let v1340 : BitVec 1 := Scalar.cmpi .slt c2_i32_841 c0_i32_845
  let v1341 : BitVec 32 := Scalar.extui v1340
  let v1342 : BitVec 32 := Scalar.subi v1339 v1341
  let v1343 : BitVec 1 := Scalar.cmpi .ne v1337 v1342
  let v1344 : BitVec 32 := Scalar.remsi v1327 c2_i32_841
  let c0_i32_846 : BitVec 32 := 0#32
  let v1345 : BitVec 1 := Scalar.cmpi .ne v1344 c0_i32_846
  let v1346 : BitVec 1 := Scalar.andi v1343 v1345
  let v1332 : BitVec 32 := Scalar.divsi v1327 c2_i32_841
  let c1_i32_847 : BitVec 32 := 1#32
  let v1347 : BitVec 32 := Scalar.subi v1332 c1_i32_847
  let v1348 : BitVec 32 := Scalar.select v1346 v1347 v1332
  let c4_i32_858 : BitVec 32 := 4#32
  let v1362 : BitVec 32 := Scalar.muli v1348 c4_i32_858
  let v1363 : BitVec 32 := Scalar.addi v1361 v1362
  let c0_i32 : BitVec 32 := 0#32
  let v11 : BitVec 1 := Scalar.cmpi .sgt v8 c0_i32
  let v12 : BitVec 32 := Scalar.extui v11
  let c0_i32_4 : BitVec 32 := 0#32
  let v13 : BitVec 1 := Scalar.cmpi .slt v8 c0_i32_4
  let v14 : BitVec 32 := Scalar.extui v13
  let v15 : BitVec 32 := Scalar.subi v12 v14
  let c2_i32_3 : BitVec 32 := 2#32
  let c0_i32_5 : BitVec 32 := 0#32
  let v16 : BitVec 1 := Scalar.cmpi .sgt c2_i32_3 c0_i32_5
  let v17 : BitVec 32 := Scalar.extui v16
  let c0_i32_6 : BitVec 32 := 0#32
  let v18 : BitVec 1 := Scalar.cmpi .slt c2_i32_3 c0_i32_6
  let v19 : BitVec 32 := Scalar.extui v18
  let v20 : BitVec 32 := Scalar.subi v17 v19
  let v21 : BitVec 1 := Scalar.cmpi .ne v15 v20
  let v22 : BitVec 32 := Scalar.remsi v8 c2_i32_3
  let c0_i32_7 : BitVec 32 := 0#32
  let v23 : BitVec 1 := Scalar.cmpi .ne v22 c0_i32_7
  let v24 : BitVec 1 := Scalar.andi v21 v23
  let v10 : BitVec 32 := Scalar.divsi v8 c2_i32_3
  let c1_i32_8 : BitVec 32 := 1#32
  let v25 : BitVec 32 := Scalar.subi v10 c1_i32_8
  let v26 : BitVec 32 := Scalar.select v24 v25 v10
  let c2_i32_9 : BitVec 32 := 2#32
  let v27 : BitVec 32 := Scalar.muli v26 c2_i32_9
  let c2_i32_848 : BitVec 32 := 2#32
  let c0_i32_849 : BitVec 32 := 0#32
  let v1349 : BitVec 1 := Scalar.cmpi .eq c2_i32_848 c0_i32_849
  let c1_i32_850 : BitVec 32 := 1#32
  let v1350 : BitVec 32 := Scalar.select v1349 c1_i32_850 c2_i32_848
  let v1351 : BitVec 32 := Scalar.remsi v1327 v1350
  let c0_i32_852 : BitVec 32 := 0#32
  let v1353 : BitVec 1 := Scalar.cmpi .slt v1351 c0_i32_852
  let c0_i32_853 : BitVec 32 := 0#32
  let v1354 : BitVec 1 := Scalar.cmpi .slt v1350 c0_i32_853
  let v1355 : BitVec 1 := Scalar.xori v1353 v1354
  let c0_i32_851 : BitVec 32 := 0#32
  let v1352 : BitVec 1 := Scalar.cmpi .ne v1351 c0_i32_851
  let v1356 : BitVec 1 := Scalar.andi v1355 v1352
  let v1357 : BitVec 32 := Scalar.addi v1351 v1350
  let v1358 : BitVec 32 := Scalar.select v1356 v1357 v1351
  let v1359 : BitVec 32 := Scalar.addi v27 v1358
  let c1_i32_859 : BitVec 32 := 1#32
  let v1364 : BitVec 32 := Scalar.muli v1359 c1_i32_859
  let v1365 : BitVec 32 := Scalar.addi v1363 v1364
  v1365.toNat
def k0_off12 (d0 : Dev nD) (c0_i32_867 : BitVec 32) (c0_i32_865 : BitVec 32) : Fin 2 → Nat :=
  let c4_i32_866 : BitVec 32 := 4#32
  let c4_i32_864 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v1374 : BitVec 32 := Scalar.muli c4_i32_864 v39
  let v1375 : BitVec 1 := Scalar.cmpi .sle v1374 c0_i32_865
  let v1376 : BitVec 32 := Scalar.extui v1375
  let v1377 : BitVec 32 := Scalar.muli c4_i32_866 v1376
  let v1378 : BitVec 32 := Scalar.addi c0_i32_867 v1377
  let c0_i32_882 : BitVec 32 := 0#32
  let v1407 : BitVec 1 := Scalar.cmpi .sgt v1378 c0_i32_882
  let v1408 : BitVec 32 := Scalar.extui v1407
  let c0_i32_883 : BitVec 32 := 0#32
  let v1409 : BitVec 1 := Scalar.cmpi .slt v1378 c0_i32_883
  let v1410 : BitVec 32 := Scalar.extui v1409
  let v1411 : BitVec 32 := Scalar.subi v1408 v1410
  let c4_i32_881 : BitVec 32 := 4#32
  let c0_i32_884 : BitVec 32 := 0#32
  let v1412 : BitVec 1 := Scalar.cmpi .sgt c4_i32_881 c0_i32_884
  let v1413 : BitVec 32 := Scalar.extui v1412
  let c0_i32_885 : BitVec 32 := 0#32
  let v1414 : BitVec 1 := Scalar.cmpi .slt c4_i32_881 c0_i32_885
  let v1415 : BitVec 32 := Scalar.extui v1414
  let v1416 : BitVec 32 := Scalar.subi v1413 v1415
  let v1417 : BitVec 1 := Scalar.cmpi .ne v1411 v1416
  let v1418 : BitVec 32 := Scalar.remsi v1378 c4_i32_881
  let c0_i32_886 : BitVec 32 := 0#32
  let v1419 : BitVec 1 := Scalar.cmpi .ne v1418 c0_i32_886
  let v1420 : BitVec 1 := Scalar.andi v1417 v1419
  let v1406 : BitVec 32 := Scalar.divsi v1378 c4_i32_881
  let c1_i32_887 : BitVec 32 := 1#32
  let v1421 : BitVec 32 := Scalar.subi v1406 c1_i32_887
  let v1422 : BitVec 32 := Scalar.select v1420 v1421 v1406
  let c4_i32_888 : BitVec 32 := 4#32
  let c0_i32_889 : BitVec 32 := 0#32
  let v1423 : BitVec 1 := Scalar.cmpi .eq c4_i32_888 c0_i32_889
  let c1_i32_890 : BitVec 32 := 1#32
  let v1424 : BitVec 32 := Scalar.select v1423 c1_i32_890 c4_i32_888
  let v1425 : BitVec 32 := Scalar.remsi v1378 v1424
  let c0_i32_892 : BitVec 32 := 0#32
  let v1427 : BitVec 1 := Scalar.cmpi .slt v1425 c0_i32_892
  let c0_i32_893 : BitVec 32 := 0#32
  let v1428 : BitVec 1 := Scalar.cmpi .slt v1424 c0_i32_893
  let v1429 : BitVec 1 := Scalar.xori v1427 v1428
  let c0_i32_891 : BitVec 32 := 0#32
  let v1426 : BitVec 1 := Scalar.cmpi .ne v1425 c0_i32_891
  let v1430 : BitVec 1 := Scalar.andi v1429 v1426
  let v1431 : BitVec 32 := Scalar.addi v1425 v1424
  let v1432 : BitVec 32 := Scalar.select v1430 v1431 v1425
  ![v1422.toNat, v1432.toNat]
def k0_off12_at (r : Fin 12) : BitVec 32 × BitVec 32 :=
  if r.val < 6 then
    if r.val < 3 then
      if r.val < 1 then
        (0#32, 0#32)
      else
        if r.val < 2 then
          (1#32, 1#32)
        else
          (2#32, 2#32)
    else
      if r.val < 4 then
        (3#32, 3#32)
      else
        if r.val < 5 then
          (4#32, 4#32)
        else
          (5#32, 5#32)
  else
    if r.val < 9 then
      if r.val < 7 then
        (6#32, 6#32)
      else
        if r.val < 8 then
          (7#32, 7#32)
        else
          (8#32, 8#32)
    else
      if r.val < 10 then
        (9#32, 9#32)
      else
        if r.val < 11 then
          (10#32, 10#32)
        else
          (11#32, 11#32)
def k0_off13 (d0 : Dev nD) (c0_i32_867 : BitVec 32) (c0_i32_865 : BitVec 32) : Fin 3 → Nat :=
  let c4_i32_866 : BitVec 32 := 4#32
  let c4_i32_864 : BitVec 32 := 4#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_10 : BitVec 32 := 2#32
  let v28 : BitVec 32 := Scalar.muli v5 c2_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_11 : BitVec 32 := 2#32
  let c0_i32_12 : BitVec 32 := 0#32
  let v29 : BitVec 1 := Scalar.cmpi .eq c2_i32_11 c0_i32_12
  let c1_i32_13 : BitVec 32 := 1#32
  let v30 : BitVec 32 := Scalar.select v29 c1_i32_13 c2_i32_11
  let v31 : BitVec 32 := Scalar.remsi v8 v30
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let c0_i32_14 : BitVec 32 := 0#32
  let v32 : BitVec 1 := Scalar.cmpi .ne v31 c0_i32_14
  let v36 : BitVec 1 := Scalar.andi v35 v32
  let v37 : BitVec 32 := Scalar.addi v31 v30
  let v38 : BitVec 32 := Scalar.select v36 v37 v31
  let v39 : BitVec 32 := Scalar.addi v28 v38
  let v1374 : BitVec 32 := Scalar.muli c4_i32_864 v39
  let v1375 : BitVec 1 := Scalar.cmpi .sle v1374 c0_i32_865
  let v1376 : BitVec 32 := Scalar.extui v1375
  let v1377 : BitVec 32 := Scalar.muli c4_i32_866 v1376
  let v1378 : BitVec 32 := Scalar.addi c0_i32_867 v1377
  let c0_i32_918 : BitVec 32 := 0#32
  let c0_i32_919 : BitVec 32 := 0#32
  ![v1378.toNat, 0, 0]
def k0_off13_at (r : Fin 12) : BitVec 32 × BitVec 32 :=
  if r.val < 6 then
    if r.val < 3 then
      if r.val < 1 then
        (0#32, 0#32)
      else
        if r.val < 2 then
          (1#32, 1#32)
        else
          (2#32, 2#32)
    else
      if r.val < 4 then
        (3#32, 3#32)
      else
        if r.val < 5 then
          (4#32, 4#32)
        else
          (5#32, 5#32)
  else
    if r.val < 9 then
      if r.val < 7 then
        (6#32, 6#32)
      else
        if r.val < 8 then
          (7#32, 7#32)
        else
          (8#32, 8#32)
    else
      if r.val < 10 then
        (9#32, 9#32)
      else
        if r.val < 11 then
          (10#32, 10#32)
        else
          (11#32, 11#32)
abbrev stage0_0 : Fin 1 → Memref sig .tc .vmem S1x1024x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x2048x16x128 : Shape := ⟨4, ![1, 2048, 16, 128]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x128x2048, .f32⟩
  | .hbm, ⟨22, _⟩ => ⟨S1x2048x16x128, .f32⟩
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.KernelIdealRun.Prog.lean ====
/- The kernel function as four kinds of block, each written once for a symbolic slot: staging a
   head's keys and values and sending them, computing a head and sending it, one receive, and one
   head's outstanding sends. The printed function is their sequence. -/
module

public import proofs.«01_k».proof.Proof.Gen.KernelIdeal.Skeleton
public import proofs.«01_k».proof.Proof.Gen.KernelIdeal.Launch

@[expose] public section

set_option synthInstance.maxSize 4096

noncomputable section

namespace Cert.KernelIdeal.Run

open Idealize.ShloMosaic Idealize.SL.Sem
open Cert.KernelIdeal Cert.KernelIdeal.Gen

variable {F : FTy → Type} [FloatOps F] [Named F]

/-! ## Operands -/

abbrev qM : Memref sig .tc .vmem S1x1024x16x128 .f32 := Memref.whole cc0_stg0_0
abbrev kM : Memref sig .tc .vmem S1x1024x16x128 .f32 := Memref.whole cc0_stg1_0
abbrev vM : Memref sig .tc .vmem S1x1024x16x128 .f32 := Memref.whole cc0_stg2_0
abbrev oM : Memref sig .tc .vmem S1x1024x16x128 .f32 := Memref.whole cc0_stg3_0
abbrev kSt : Memref sig .tc .vmem S4x1024x128 .bf16 := Memref.whole cc0_scratch0
abbrev vSt : Memref sig .tc .vmem S4x1024x128 .bf16 := Memref.whole cc0_scratch1
abbrev kRe : Memref sig .tc .vmem S4x1024x128 .bf16 := Memref.whole cc0_scratch2
abbrev vRe : Memref sig .tc .vmem S4x1024x128 .bf16 := Memref.whole cc0_scratch3
abbrev oB : Memref sig .tc .vmem S16x1024x128 .bf16 := Memref.whole cc0_scratch4

theorem qM_whole : qM.IsWhole := Memref.isWhole_whole _
theorem kM_whole : kM.IsWhole := Memref.isWhole_whole _
theorem vM_whole : vM.IsWhole := Memref.isWhole_whole _
theorem oM_whole : oM.IsWhole := Memref.isWhole_whole _
theorem kSt_whole : kSt.IsWhole := Memref.isWhole_whole _
theorem vSt_whole : vSt.IsWhole := Memref.isWhole_whole _
theorem kRe_whole : kRe.IsWhole := Memref.isWhole_whole _
theorem vRe_whole : vRe.IsWhole := Memref.isWhole_whole _
theorem oB_whole : oB.IsWhole := Memref.isWhole_whole _

/-- Slot `j` of a four-slot buffer lies inside it. -/
theorem inb4 (j : Fin 4) : ∀ a, (![j.val, 0, 0] : Fin 3 → Nat) a + S1x1024x128.size a ≤ S4x1024x128.size a := by
  revert j; decide
/-- Slot `j` of a four-slot buffer. -/
abbrev r4 (j : Fin 4) : Rect S4x1024x128 := Rect.unit (s := S4x1024x128) ![j.val, 0, 0] S1x1024x128.size (inb4 j)
theorem packed4 (j : Fin 4) : (r4 j).PackedRows (EltTy.packing .bf16) := by
  fin_cases j
  · exact packedbf16_S4x1024x128_S1x1024x128_0_0_0
  · exact packedbf16_S4x1024x128_S1x1024x128_1_0_0
  · exact packedbf16_S4x1024x128_S1x1024x128_2_0_0
  · exact packedbf16_S4x1024x128_S1x1024x128_3_0_0
theorem words4 (j : Fin 4) : (r4 j).WholeWords (EltTy.packing .bf16) := by
  fin_cases j
  · exact wordsbf16_S4x1024x128_S1x1024x128_0_0_0
  · exact wordsbf16_S4x1024x128_S1x1024x128_1_0_0
  · exact wordsbf16_S4x1024x128_S1x1024x128_2_0_0
  · exact wordsbf16_S4x1024x128_S1x1024x128_3_0_0
/-- Slot `j` of a four-slot buffer as a matrix. -/
abbrev slot4 (m : Memref sig .tc .vmem S4x1024x128 .bf16) (j : Fin 4) : Memref sig .tc .vmem S1024x128 .bf16 :=
  (m.slice (r4 j) (fun _ => rfl)).squeeze S1024x128 squeezes_S1x1024x128_S1024x128
/-- A slot of the output buffer as a matrix. -/
abbrev slot16 (off : Fin 3 → Nat) (h : ∀ a, off a + S1x1024x128.size a ≤ S16x1024x128.size a) : Memref sig .tc .vmem S1024x128 .bf16 :=
  (oB.slice (Rect.unit (s := S16x1024x128) off S1x1024x128.size h) (fun _ => rfl)).squeeze S1024x128 squeezes_S1x1024x128_S1024x128

theorem inbS4 (j : Fin 4) : ∀ a, (![j.val] : Fin 1 → Nat) a + S1.size a ≤ S4.size a := by revert j; decide
/-- Semaphore `j` of four. -/
abbrev sem4 (a : DmaSems sig S4) (j : Fin 4) : DmaSem sig :=
  ((a.slice (Rect.unit (s := S4) ![j.val] S1.size (inbS4 j))).squeeze S_ squeezes_S1_S_).sem
/-- The semaphore of a four by four array at an offset. -/
abbrev sem16 (a : DmaSems sig S4x4) (off : Fin 2 → Nat) (h : ∀ x, off x + S1x1.size x ≤ S4x4.size x) : DmaSem sig :=
  ((a.slice (Rect.unit (s := S4x4) off S1x1.size h)).squeeze S_ squeezes_S1x1_S_).sem

abbrev barS : Sem sig := (SemArray.scalar (sig.barrier 0 rfl) : Sems sig S_).sem

/-- The head `j` of this device's group in a staged block. -/
abbrev rH (d0 : Dev nD) (j : Fin 4) : Rect S1x1024x16x128 :=
  Rect.unit (s := S1x1024x16x128) (k0_off1 d0 (BitVec.ofNat 32 j.val)) S1x1024x1x128.size (k0_off1_inb d0 j)
/-- The output buffer's slot that head `j` is stored to. -/
abbrev rO (d0 : Dev nD) (j : Fin 4) : Rect S16x1024x128 :=
  Rect.unit (s := S16x1024x128) (k0_off2 d0 (BitVec.ofNat 32 j.val)) S1x1024x128.size (k0_off2_inb d0 j)
/-- The same slot as the sends name it. -/
abbrev oSlot (d0 : Dev nD) (j : Fin 4) : Memref sig .tc .vmem S1024x128 .bf16 :=
  slot16 (k0_off5 d0 (BitVec.ofNat 32 j.val)) (k0_off5_inb d0 j)
/-- The slot the receive `i` waits for. -/
abbrev iSlot (d0 : Dev nD) (i : Fin 12) : Memref sig .tc .vmem S1024x128 .bf16 :=
  slot16 (k0_off13 d0 (k0_off13_at i).1 (k0_off13_at i).2) (k0_off13_inb d0 i)

/-! ## Values -/

/-- What a staging store writes: a head of the keys (or values), rounded. -/
abbrev stageVal (x : Vec F S1x1024x1x128 .f32) : FVec F S1x1024x128 .bf16 := k0_pay1 x
/-- What a head's store writes, from the three staged heads and the two landed ones. -/
def headVal (q k v : Vec F S1x1024x1x128 .f32) (k2 v2 : Vec F S1x1024x128 .bf16) : FVec F S1x1024x128 .bf16 :=
  k0_pay18 (k0_pay10 q) (k0_pay14 (k0_pay12 q k)) (k0_pay16 (k0_pay12 q k)) (k0_pay17 (k0_pay11 v) (k0_pay12 q k)) k2 v2

/-! ## Blocks -/

abbrev Pr (F : FTy → Type) [FloatOps F] [Named F] := Prog (TpuEff nD τ sig (Elt F) Λ₀ .tc) PUnit

/-- The four signals and the wait. -/
def enter (d0 : Dev nD) (k : Pr F) : Pr F :=
  (semSignalWord (⟨k0_dev1 d0, k0_dev1_lt d0⟩ : Dev nD) barS 1#32).bind fun _ =>
  (semSignalWord (⟨k0_dev2 d0, k0_dev2_lt d0⟩ : Dev nD) barS 1#32).bind fun _ =>
  (semSignalWord (⟨k0_dev3 d0, k0_dev3_lt d0⟩ : Dev nD) barS 1#32).bind fun _ =>
  (semSignalWord (⟨k0_dev4 d0, k0_dev4_lt d0⟩ : Dev nD) barS 1#32).bind fun _ =>
  (semWaitWord barS 4#32).bind fun _ => k

/-- Stage head `j`'s rows of one operand into slot `j` of a buffer. -/
def stage (d0 : Dev nD) (j : Fin 4) (src : Memref sig .tc .vmem S1x1024x16x128 .f32)
    (dst : Memref sig .tc .vmem S4x1024x128 .bf16) (hd : dst.IsWhole) (k : Pr F) : Pr F :=
  .op (.load src (rH d0 j).toLoadRect (View.loadsAt_vmem h_S1x1024x1x128)) fun x =>
  .op (.load dst (r4 j).toLoadRect (View.loadsAt_vmem h_S1x1024x128)) fun _ =>
  .op (.store dst (r4 j) (stageVal x) Finset.univ (View.stores_vmem h_S1x1024x128 (hd.storeExact_slice rfl _ (packed4 j)) (fun _ => rfl)) (.inl rfl)) fun _ => k

/-- Send slot `j` of a staging buffer to the same slot of a landing buffer of device `n`. -/
def sendSt (j : Fin 4) (n : Dev nD) (k : Pr F) : Pr F :=
  .op (.enqueueDma (slot4 kSt j) (.remote (Dev.tc n) (slot4 kRe j) (.dma (sem4 cc0_scratch5 j))) (.dma (sem4 cc0_scratch6 j))
    ((kSt_whole.wordExact_slice rfl _ (words4 j)).reshape _ _) ((kRe_whole.wordExact_slice rfl _ (words4 j)).reshape _ _) ⟨⟨rfl, Or.inl rfl⟩, trivial⟩) fun _ => k
/-- The same for the values. -/
def sendSv (j : Fin 4) (n : Dev nD) (k : Pr F) : Pr F :=
  .op (.enqueueDma (slot4 vSt j) (.remote (Dev.tc n) (slot4 vRe j) (.dma (sem4 cc0_scratch7 j))) (.dma (sem4 cc0_scratch8 j))
    ((vSt_whole.wordExact_slice rfl _ (words4 j)).reshape _ _) ((vRe_whole.wordExact_slice rfl _ (words4 j)).reshape _ _) ⟨⟨rfl, Or.inl rfl⟩, trivial⟩) fun _ => k

/-- Stage head `j` and send it to device `nk` (keys) and `nv` (values). -/
def stageBlk (d0 : Dev nD) (j : Fin 4) (nk nv : Dev nD) (k : Pr F) : Pr F :=
  stage d0 j kM kSt kSt_whole <| stage d0 j vM vSt vSt_whole <| sendSt j nk <| sendSv j nv k

/-- Wait for a transfer between slots `j` of two buffers. -/
def wait4 (s : DmaSem sig) (src dst : Memref sig .tc .vmem S4x1024x128 .bf16) (hs : src.IsWhole) (hd : dst.IsWhole) (j : Fin 4) (k : Pr F) : Pr F :=
  .op (.waitDma2 s (slot4 src j) (slot4 dst j) ((hs.wordExact_slice rfl _ (words4 j)).reshape _ _) ((hd.wordExact_slice rfl _ (words4 j)).reshape _ _)) fun _ => k

/-- Send head `j` of this device's group to device `n`. -/
def sendO (d0 : Dev nD) (j : Fin 4) (n : Dev nD) (sS sR : DmaSem sig) (k : Pr F) : Pr F :=
  .op (.enqueueDma (oSlot d0 j) (.remote (Dev.tc n) (oSlot d0 j) (.dma sS)) (.dma sR)
    ((oB_whole.wordExact_slice rfl _ (k0_off5_wordsbf16 d0 j)).reshape _ _) ((oB_whole.wordExact_slice rfl _ (k0_off5_wordsbf16 d0 j)).reshape _ _) ⟨⟨rfl, Or.inl rfl⟩, trivial⟩) fun _ => k

/-- Load head `j`, wait for its other half, compute and store it. -/
def headBlk (d0 : Dev nD) (j : Fin 4) (k : Pr F) : Pr F :=
  .op (.load qM (rH d0 j).toLoadRect (View.loadsAt_vmem h_S1x1024x1x128)) fun q =>
  .op (.load kM (rH d0 j).toLoadRect (View.loadsAt_vmem h_S1x1024x1x128)) fun kk =>
  .op (.load vM (rH d0 j).toLoadRect (View.loadsAt_vmem h_S1x1024x1x128)) fun vv =>
  wait4 (sem4 cc0_scratch6 j) kSt kRe kSt_whole kRe_whole j <|
  wait4 (sem4 cc0_scratch8 j) vSt vRe vSt_whole vRe_whole j <|
  .op (.load kRe (r4 j).toLoadRect (View.loadsAt_vmem h_S1x1024x128)) fun k2 =>
  .op (.load vRe (r4 j).toLoadRect (View.loadsAt_vmem h_S1x1024x128)) fun v2 =>
  .op (.load oB (rO d0 j).toLoadRect (View.loadsAt_vmem h_S1x1024x128)) fun _ =>
  .op (.store oB (rO d0 j) (headVal q kk vv k2 v2) Finset.univ
    (View.stores_vmem h_S1x1024x128 (oB_whole.storeExact_slice rfl _ (k0_off2_packedbf16 d0 j)) (fun _ => rfl)) (.inl rfl)) fun _ => k

/-- Wait for the receive `i`. -/
def recvO (d0 : Dev nD) (i : Fin 12) (k : Pr F) : Pr F :=
  .op (.waitDma2 (sem16 cc0_scratch10 (k0_off12 d0 (k0_off12_at i).1 (k0_off12_at i).2) (k0_off12_inb d0 i)) (iSlot d0 i) (iSlot d0 i)
    ((oB_whole.wordExact_slice rfl _ (k0_off13_wordsbf16 d0 i)).reshape _ _) ((oB_whole.wordExact_slice rfl _ (k0_off13_wordsbf16 d0 i)).reshape _ _)) fun _ => k

/-- Wait for a send of head `j` of this device's group. -/
def waitO (d0 : Dev nD) (j : Fin 4) (sS : DmaSem sig) (k : Pr F) : Pr F :=
  .op (.waitDma2 sS (oSlot d0 j) (oSlot d0 j)
    ((oB_whole.wordExact_slice rfl _ (k0_off5_wordsbf16 d0 j)).reshape _ _) ((oB_whole.wordExact_slice rfl _ (k0_off5_wordsbf16 d0 j)).reshape _ _)) fun _ => k

/-- The whole output buffer, turned into the block's layout and stored. -/
def outBlk (k : Pr F) : Pr F :=
  .op (.load oB (Rect.unit (s := S16x1024x128) ![0, 0, 0] S16x1024x128.size inb_S16x1024x128_S16x1024x128_0_0_0).toLoadRect (View.loadsAt_vmem h_S16x1024x128)) fun x =>
  .op (.load oM (Rect.unit (s := S1x1024x16x128) ![0, 0, 0, 0] S1x1024x16x128.size inb_S1x1024x16x128_S1x1024x16x128_0_0_0_0).toLoadRect (View.loadsAt_vmem h_S1x1024x16x128)) fun _ =>
  .op (.store oM (Rect.unit (s := S1x1024x16x128) ![0, 0, 0, 0] S1x1024x16x128.size inb_S1x1024x16x128_S1x1024x16x128_0_0_0_0) (k0_pay46 x) Finset.univ
    (View.stores_vmem_bits_univ h_S1x1024x16x128 rfl) (.inl rfl)) fun _ => k

/-- The send semaphore of head `j`'s send number `o`, as the function names it. -/
def osy (d0 : Dev nD) : (j : Fin 4) → (o : Fin 3) → DmaSem sig
  | 0, o => sem16 cc0_scratch9 (k0_off3 d0 (BitVec.ofNat 32 (1 + o.val))) (k0_off3_inb d0 o)
  | 1, o => sem16 cc0_scratch9 (k0_off6 d0 (BitVec.ofNat 32 (1 + o.val))) (k0_off6_inb d0 o)
  | 2, o => sem16 cc0_scratch9 (k0_off8 d0 (BitVec.ofNat 32 (1 + o.val))) (k0_off8_inb d0 o)
  | 3, o => sem16 cc0_scratch9 (k0_off10 d0 (BitVec.ofNat 32 (1 + o.val))) (k0_off10_inb d0 o)

/-- The receive semaphore head `j`'s sends name. -/
def ory (d0 : Dev nD) : (j : Fin 4) → DmaSem sig
  | 0 => sem16 cc0_scratch10 (k0_off4 d0) (k0_off4_inb d0)
  | 1 => sem16 cc0_scratch10 (k0_off7 d0) (k0_off7_inb d0)
  | 2 => sem16 cc0_scratch10 (k0_off9 d0) (k0_off9_inb d0)
  | 3 => sem16 cc0_scratch10 (k0_off11 d0) (k0_off11_inb d0)

/-- The device head `j`'s send number `o` names. -/
def oDev (d0 : Dev nD) : (j : Fin 4) → (o : Fin 3) → Dev nD
  | 0, 0 => ⟨k0_dev13 d0, k0_dev13_lt d0⟩
  | 0, 1 => ⟨k0_dev14 d0, k0_dev14_lt d0⟩
  | 0, 2 => ⟨k0_dev15 d0, k0_dev15_lt d0⟩
  | 1, 0 => ⟨k0_dev16 d0, k0_dev16_lt d0⟩
  | 1, 1 => ⟨k0_dev17 d0, k0_dev17_lt d0⟩
  | 1, 2 => ⟨k0_dev18 d0, k0_dev18_lt d0⟩
  | 2, 0 => ⟨k0_dev19 d0, k0_dev19_lt d0⟩
  | 2, 1 => ⟨k0_dev20 d0, k0_dev20_lt d0⟩
  | 2, 2 => ⟨k0_dev21 d0, k0_dev21_lt d0⟩
  | 3, 0 => ⟨k0_dev22 d0, k0_dev22_lt d0⟩
  | 3, 1 => ⟨k0_dev23 d0, k0_dev23_lt d0⟩
  | 3, 2 => ⟨k0_dev24 d0, k0_dev24_lt d0⟩

/-- The device head `j`'s keys go to, as the function names it. -/
def kDev (d0 : Dev nD) : Fin 4 → Dev nD
  | 0 => ⟨k0_dev5 d0, k0_dev5_lt d0⟩
  | 1 => ⟨k0_dev7 d0, k0_dev7_lt d0⟩
  | 2 => ⟨k0_dev9 d0, k0_dev9_lt d0⟩
  | 3 => ⟨k0_dev11 d0, k0_dev11_lt d0⟩
/-- The device head `j`'s values go to. -/
def vDev (d0 : Dev nD) : Fin 4 → Dev nD
  | 0 => ⟨k0_dev6 d0, k0_dev6_lt d0⟩
  | 1 => ⟨k0_dev8 d0, k0_dev8_lt d0⟩
  | 2 => ⟨k0_dev10 d0, k0_dev10_lt d0⟩
  | 3 => ⟨k0_dev12 d0, k0_dev12_lt d0⟩

/-- Compute head `j` and send it to the three others of the group. -/
def ringBlk (d0 : Dev nD) (j : Fin 4) (k : Pr F) : Pr F :=
  headBlk d0 j <| sendO d0 j (oDev d0 j 0) (osy d0 j 0) (ory d0 j) <|
    sendO d0 j (oDev d0 j 1) (osy d0 j 1) (ory d0 j) <| sendO d0 j (oDev d0 j 2) (osy d0 j 2) (ory d0 j) k

/-- Wait for every send of slot `j`. -/
def drainBlk (d0 : Dev nD) (j : Fin 4) (k : Pr F) : Pr F :=
  wait4 (sem4 cc0_scratch5 j) kRe kSt kRe_whole kSt_whole j <| wait4 (sem4 cc0_scratch7 j) vRe vSt vRe_whole vSt_whole j <|
    waitO d0 j (osy d0 j 0) <| waitO d0 j (osy d0 j 1) <| waitO d0 j (osy d0 j 2) k

/-- A block for every index of a list, in order. -/
def forEach {ι : Type} (b : ι → Pr F → Pr F) : List ι → Pr F → Pr F
  | [], k => k
  | i :: l, k => b i (forEach b l k)

/-- The function after its first read of the device. -/
def prog (d0 : Dev nD) : Pr F :=
  enter d0 <|
  forEach (fun j => stageBlk d0 j (kDev d0 j) (vDev d0 j)) [0, 1, 2, 3] <|
  forEach (ringBlk d0) [0, 1, 2, 3] <|
  forEach (recvO d0) [0, 1, 2, 3, 4, 5, 6, 7, 8, 9, 10, 11] <|
  outBlk <|
  forEach (drainBlk d0) [0, 1, 2, 3] <| .ret ⟨⟩

/-- The function at its operands. -/
def body : Pr F :=
  cc0_body qM qM_whole kM kM_whole vM vM_whole oM oM_whole kSt kSt_whole vSt vSt_whole kRe kRe_whole vRe vRe_whole oB oB_whole
    cc0_scratch5 cc0_scratch6 cc0_scratch7 cc0_scratch8 cc0_scratch9 cc0_scratch10

set_option maxRecDepth 200000 in
set_option maxHeartbeats 4000000 in
/-- The printed function is the sequence of blocks. -/
theorem body_eq : body (F := F) = .op .deviceId fun d0 => prog d0 := rfl

end Cert.KernelIdeal.Run
-- ==== Proof.KernelIdealRun.Mesh.lean ====
/- The mesh: which device each signal and each transfer goes to, which slot and which semaphore it
   names, in closed form, checked over the sixteen devices. -/
module

public import proofs.«01_k».proof.Proof.KernelIdealRun.Prog

@[expose] public section

set_option synthInstance.maxSize 4096

noncomputable section

namespace Cert.KernelIdeal.Run

open Idealize.ShloMosaic Idealize.SL.Sem
open Cert.KernelIdeal Cert.KernelIdeal.Gen

/-! ## Devices -/

/-- The device holding the other half of this device's keys: the other one along the first axis. -/
def xn (c : Dev nD) : Dev nD := ⟨(c.val + 8) % 16, Nat.mod_lt _ (by decide)⟩
/-- A device's rank among the four that share its rows: its second axis and the parity of its third. -/
def rk (c : Dev nD) : Fin 4 := ⟨(2 * ((c.val / 4) % 2) + c.val % 2) % 4, Nat.mod_lt _ (by decide)⟩
/-- The device of rank `p` in the group of `c`. -/
def peer (c : Dev nD) (p : Fin 4) : Dev nD :=
  ⟨(8 * (c.val / 8) + 4 * (p.val / 2) + 2 * ((c.val % 4) / 2) + p.val % 2) % 16, Nat.mod_lt _ (by decide)⟩
/-- The device `o` ranks on from `c` in its group. -/
def on (c : Dev nD) (o : Fin 4) : Dev nD := peer c (rk c + o)

theorem xn_xn (c : Dev nD) : xn (xn c) = c := by revert c; decide
theorem rk_xn (c : Dev nD) : rk (xn c) = rk c := by revert c; decide
theorem rk_on (c : Dev nD) (o : Fin 4) : rk (on c o) = rk c + o := by revert c o; decide
theorem peer_rk (c : Dev nD) : peer c (rk c) = c := by revert c; decide
theorem peer_on (c : Dev nD) (o p : Fin 4) : peer (on c o) p = peer c p := by revert c o p; decide
theorem on_zero (c : Dev nD) : on c 0 = c := by revert c; decide
theorem on_neg (c : Dev nD) (o : Fin 4) : on (on c o) (-o) = c := by revert c o; decide
theorem on_neg' (c : Dev nD) (o : Fin 4) : on (on c (-o)) o = c := by revert c o; decide

/-- The other device along the first axis, as a permutation. -/
def xnE : Dev nD ≃ Dev nD := ⟨xn, xn, xn_xn, xn_xn⟩
/-- The device `o` ranks on, as a permutation. -/
def onE (o : Fin 4) : Dev nD ≃ Dev nD := ⟨fun c => on c o, fun c => on c (-o), fun c => on_neg c o, fun c => on_neg' c o⟩

/-! ## Slots and semaphores -/

/-- The output buffer's slot of head `j` of the device of rank `p`. -/
def sl (p j : Fin 4) : Fin 16 := ⟨4 * p.val + j.val, by omega⟩

/-- A device's transfer semaphores: twelve rows of four. -/
def dsem (a : Fin 12) (j : Fin 4) : DmaSem sig := ⟨4 + 4 * a.val + j.val, by have : sig.nDmaSem = 52 := rfl; omega⟩
/-- Row of the sends of the keys, of their receives, and the same for the values. -/
def aKx : Fin 12 := 0
def aKr : Fin 12 := 1
def aVx : Fin 12 := 2
def aVr : Fin 12 := 3
/-- Row of the sends of a head to the device of rank `p`, and of the receives from it. -/
def aOx (p : Fin 4) : Fin 12 := ⟨4 + p.val, by omega⟩
def aOr (p : Fin 4) : Fin 12 := ⟨8 + p.val, by omega⟩

/-! ## What the function computes, in closed form -/

theorem dev1 (c : Dev nD) : (⟨k0_dev1 c, k0_dev1_lt c⟩ : Dev nD) = xn c := Fin.ext (by revert c; decide +kernel)
theorem dev2 (c : Dev nD) : (⟨k0_dev2 c, k0_dev2_lt c⟩ : Dev nD) = on c 1 := Fin.ext (by revert c; decide +kernel)
theorem dev3 (c : Dev nD) : (⟨k0_dev3 c, k0_dev3_lt c⟩ : Dev nD) = on c 2 := Fin.ext (by revert c; decide +kernel)
theorem dev4 (c : Dev nD) : (⟨k0_dev4 c, k0_dev4_lt c⟩ : Dev nD) = on c 3 := Fin.ext (by revert c; decide +kernel)

theorem kDev_eq (c : Dev nD) (j : Fin 4) : kDev c j = xn c := Fin.ext (by revert c j; decide +kernel)
theorem vDev_eq (c : Dev nD) (j : Fin 4) : vDev c j = xn c := Fin.ext (by revert c j; decide +kernel)
theorem oDev_eq (c : Dev nD) (j : Fin 4) (o : Fin 3) : oDev c j o = on c o.succ := Fin.ext (by revert c j o; decide +kernel)

theorem off1 (c : Dev nD) (j : Fin 4) : k0_off1 c (BitVec.ofNat 32 j.val) = ![0, 0, (sl (rk c) j).val, 0] := by revert c j; decide +kernel
theorem off2 (c : Dev nD) (j : Fin 4) : k0_off2 c (BitVec.ofNat 32 j.val) = ![(sl (rk c) j).val, 0, 0] := by revert c j; decide +kernel
theorem off5 (c : Dev nD) (j : Fin 4) : k0_off5 c (BitVec.ofNat 32 j.val) = ![(sl (rk c) j).val, 0, 0] := by revert c j; decide +kernel

theorem osy_eq (c : Dev nD) (j : Fin 4) (o : Fin 3) : osy c j o = dsem (aOx (rk c + o.succ)) j := Fin.ext (by revert c j o; decide +kernel)
theorem ory_eq (c : Dev nD) (j : Fin 4) : ory c j = dsem (aOr (rk c)) j := Fin.ext (by revert c j; decide +kernel)

/-- How many ranks on the sender of the receive `i` is. -/
def ro (c : Dev nD) (i : Fin 12) : Fin 3 :=
  ⟨(((i.val / 4 + if (rk c).val ≤ i.val / 4 then 1 else 0) + 4 - (rk c).val) % 4 + 2) % 3, Nat.mod_lt _ (by decide)⟩
/-- Which of its four heads. -/
def rj (i : Fin 12) : Fin 4 := ⟨i.val % 4, Nat.mod_lt _ (by decide)⟩

theorem off13 (c : Dev nD) (i : Fin 12) :
    k0_off13 c (k0_off13_at i).1 (k0_off13_at i).2 = ![(sl (rk c + (ro c i).succ) (rj i)).val, 0, 0] := by revert c i; decide +kernel
theorem rsem_eq (c : Dev nD) (i : Fin 12) :
    sem16 cc0_scratch10 (k0_off12 c (k0_off12_at i).1 (k0_off12_at i).2) (k0_off12_inb c i) = dsem (aOr (rk c + (ro c i).succ)) (rj i) :=
  Fin.ext (by revert c i; decide +kernel)

theorem ro_inj (c : Dev nD) : Function.Injective fun i : Fin 12 => (ro c i, rj i) := by revert c; decide +kernel
/-- The receives are the three other devices' four heads, each once. -/
def recvE (c : Dev nD) : Fin 12 ≃ Fin 3 × Fin 4 :=
  Equiv.ofBijective (fun i => (ro c i, rj i)) ((Fintype.bijective_iff_injective_and_card _).mpr ⟨ro_inj c, by decide⟩)

theorem sem5 (j : Fin 4) : sem4 cc0_scratch5 j = dsem aKx j := Fin.ext (by revert j; decide +kernel)
theorem sem6 (j : Fin 4) : sem4 cc0_scratch6 j = dsem aKr j := Fin.ext (by revert j; decide +kernel)
theorem sem7 (j : Fin 4) : sem4 cc0_scratch7 j = dsem aVx j := Fin.ext (by revert j; decide +kernel)
theorem sem8 (j : Fin 4) : sem4 cc0_scratch8 j = dsem aVr j := Fin.ext (by revert j; decide +kernel)

end Cert.KernelIdeal.Run
-- ==== Proof.KernelIdealRun.Contents.lean ====
/- What every buffer holds: the heads each device stages, the heads it computes, and the output
   buffer's contents after the exchange; and the slots the buffers are cut into. -/
module

public import proofs.«01_k».proof.Proof.KernelIdealRun.Mesh
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

abbrev UU : Type := UR sig nD τ × URounds (GSem nD τ sig) (Fin 4)

local notation "𝕄" => MT nD τ sig Unit (Elt F) ℕ UU ℕ

variable (m : (ℓ : Loc nD τ sig) → Buf (Elt F) ℓ) (ρ : Dev nD → PrngReg)

/-! ## Heads -/

theorem inbH (n : Fin 16) : ∀ a, (![0, 0, n.val, 0] : Fin 4 → Nat) a + S1x1024x1x128.size a ≤ S1x1024x16x128.size a := by
  revert n; decide
/-- Head `n` of a staged block. -/
abbrev rHead (n : Fin 16) : Rect S1x1024x16x128 := Rect.unit (s := S1x1024x16x128) ![0, 0, n.val, 0] S1x1024x1x128.size (inbH n)
theorem inb16 (n : Fin 16) : ∀ a, (![n.val, 0, 0] : Fin 3 → Nat) a + S1x1024x128.size a ≤ S16x1024x128.size a := by
  revert n; decide
/-- Slot `n` of the output buffer. -/
abbrev r16 (n : Fin 16) : Rect S16x1024x128 := Rect.unit (s := S16x1024x128) ![n.val, 0, 0] S1x1024x128.size (inb16 n)

abbrev Blk (F : FTy → Type) [FloatOps F] [Named F] : Type := (cc0_stg0_0 : Ref sig .tc).ty.Contents (Elt F)

/-- Head `n` of a block. -/
def hd (X : Blk F) (n : Fin 16) : Vec F S1x1024x1x128 .f32 := (qM.access (rHead n)).read (Elt F) X

theorem read_head (m : Memref sig .tc .vmem S1x1024x16x128 .f32) (c : Dev nD) (j : Fin 4) (X : m.view.ref.ty.Contents (Elt F)) :
    (m.access (rH c j)).read (Elt F) X = (m.access (rHead (sl (rk c) j))).read (Elt F) X := by
  have h : ∀ (off : Fin 4 → Nat) (hi : ∀ a, off a + S1x1024x1x128.size a ≤ S1x1024x16x128.size a), off = ![0, 0, (sl (rk c) j).val, 0] →
      ((m.access (Rect.unit (s := S1x1024x16x128) off S1x1024x1x128.size hi)).read (Elt F) X : S1x1024x1x128.Idx → Elt F .f32)
        = (m.access (rHead (sl (rk c) j))).read (Elt F) X := by
    rintro off hi rfl; rfl
  exact h _ _ (off1 c j)

/-! ## Inputs -/

/-- A device's blocks of the three inputs. -/
def qB (c : Dev nD) : Blk F := (win0_0.blk (0 : Fin 1)).view.read (Elt F) (m ((c : Thread nD τ).loc main_arg0))
def kB (c : Dev nD) : Blk F := (win0_1.blk (0 : Fin 1)).view.read (Elt F) (m ((c : Thread nD τ).loc main_arg1))
def vB (c : Dev nD) : Blk F := (win0_2.blk (0 : Fin 1)).view.read (Elt F) (m ((c : Thread nD τ).loc main_arg2))

/-! ## Buffers -/

/-- A position of a buffer of slots, within its slot. -/
def in4 (i : S4x1024x128.Idx) : S1x1024x128.Idx := fun a => match a with | 0 => (0 : Fin 1) | 1 => i 1 | 2 => i 2
def in16 (i : S16x1024x128.Idx) : S1x1024x128.Idx := fun a => match a with | 0 => (0 : Fin 1) | 1 => i 1 | 2 => i 2

/-- A device's staged keys and values: the four heads its group member works on, rounded. -/
def kF (c : Dev nD) : S4x1024x128.Idx → Elt F .bf16 := fun i => stageVal (hd (kB m c) (sl (rk c) (i 0))) (in4 i)
def vF (c : Dev nD) : S4x1024x128.Idx → Elt F .bf16 := fun i => stageVal (hd (vB m c) (sl (rk c) (i 0))) (in4 i)

/-- Head `j` of device `c`'s four: attention over both halves of the keys. -/
def headV (c : Dev nD) (j : Fin 4) : FVec F S1x1024x128 .bf16 :=
  headVal (hd (qB m c) (sl (rk c) j)) (hd (kB m c) (sl (rk c) j)) (hd (vB m c) (sl (rk c) j))
    (stageVal (hd (kB m (xn c)) (sl (rk c) j))) (stageVal (hd (vB m (xn c)) (sl (rk c) j)))

/-- Whose head a slot of the output buffer is, and which. -/
def rOf (n : Fin 16) : Fin 4 := ⟨n.val / 4, by omega⟩
def jOf (n : Fin 16) : Fin 4 := ⟨n.val % 4, by omega⟩
theorem rOf_sl (p j : Fin 4) : rOf (sl p j) = p := by revert p j; decide
theorem jOf_sl (p j : Fin 4) : jOf (sl p j) = j := by revert p j; decide

/-- The output buffer after the exchange: slot `4 p + j` is head `j` of the group's device of rank `p`. -/
def oF (c : Dev nD) : S16x1024x128.Idx → Elt F .bf16 := fun i => headV m (peer c (rOf (i 0))) (jOf (i 0)) (in16 i)

/-- What a device stores to its result. -/
def outV (c : Dev nD) : Blk F := k0_pay46 (oF m c)

/-- A view whose read of `G` is `w` holds `G` once `w` is written through it. -/
theorem write_agree {sp : Space} {s : Shape} {e : EltTy} (v : View sig .tc sp s e) (f G : v.ty.Contents (Elt F)) (w : s.Idx → Elt F e)
    (h : v.read (Elt F) G = w) : ∀ i ∈ v.set, v.write (Elt F) f w Finset.univ i = G i := by
  intro i hi
  subst h
  rw [View.write_read_eq_piecewise, Finset.piecewise_eq_of_mem]
  exact hi

/-! ## Slots -/

theorem emb4_0 (j : Fin 4) (i : S1x1024x128.Idx) : ((r4 j).emb i) 0 = j := Fin.ext (by
  have h := (i 0).isLt; change (i 0).val < 1 at h
  show j.val + 1 * (i 0).val = j.val; omega)
theorem emb16_0 (n : Fin 16) (i : S1x1024x128.Idx) : ((r16 n).emb i) 0 = n := Fin.ext (by
  have h := (i 0).isLt; change (i 0).val < 1 at h
  show n.val + 1 * (i 0).val = n.val; omega)
theorem in4_emb (j : Fin 4) (i : S1x1024x128.Idx) : in4 ((r4 j).emb i) = i := by
  funext a; apply Fin.ext
  match a with
  | 0 => have h := (i 0).isLt; change (i 0).val < 1 at h; show 0 = (i 0).val; omega
  | 1 => show 0 + 1 * (i 1).val = _; omega
  | 2 => show 0 + 1 * (i 2).val = _; omega
theorem in16_emb (n : Fin 16) (i : S1x1024x128.Idx) : in16 ((r16 n).emb i) = i := by
  funext a; apply Fin.ext
  match a with
  | 0 => have h := (i 0).isLt; change (i 0).val < 1 at h; show 0 = (i 0).val; omega
  | 1 => show 0 + 1 * (i 1).val = _; omega
  | 2 => show 0 + 1 * (i 2).val = _; omega

theorem emb_in4 (i : S4x1024x128.Idx) : (r4 (i 0)).emb (in4 i) = i := by
  funext a; apply Fin.ext
  match a with
  | 0 => show (i 0).val + 1 * 0 = _; omega
  | 1 => show 0 + 1 * (i 1).val = _; omega
  | 2 => show 0 + 1 * (i 2).val = _; omega
theorem emb_in16 (i : S16x1024x128.Idx) : (r16 (i 0)).emb (in16 i) = i := by
  funext a; apply Fin.ext
  match a with
  | 0 => show (i 0).val + 1 * 0 = _; omega
  | 1 => show 0 + 1 * (i 1).val = _; omega
  | 2 => show 0 + 1 * (i 2).val = _; omega

theorem mem_r4 (j : Fin 4) (i : S4x1024x128.Idx) : i ∈ (r4 j).set ↔ i 0 = j := by
  rw [← Rect.map_emb_univ, Finset.mem_map]
  exact ⟨fun ⟨x, _, hx⟩ => hx ▸ emb4_0 j x, fun h => ⟨in4 i, Finset.mem_univ _, h ▸ emb_in4 i⟩⟩
theorem mem_r16 (n : Fin 16) (i : S16x1024x128.Idx) : i ∈ (r16 n).set ↔ i 0 = n := by
  rw [← Rect.map_emb_univ, Finset.mem_map]
  exact ⟨fun ⟨x, _, hx⟩ => hx ▸ emb16_0 n x, fun h => ⟨in16 i, Finset.mem_univ _, h ▸ emb_in16 i⟩⟩

/-- Slot `j` of the staged keys, read back. -/
theorem read_kF (c : Dev nD) (j : Fin 4) :
    ((kSt.access (r4 j)).read (Elt F) (kF m c) : S1x1024x128.Idx → Elt F .bf16) = stageVal (hd (kB m c) (sl (rk c) j)) :=
  funext fun i => congrArg₂ (fun a b => stageVal (hd (kB m c) (sl (rk c) a)) b) (emb4_0 j i) (in4_emb j i)
theorem read_vF (c : Dev nD) (j : Fin 4) :
    ((vSt.access (r4 j)).read (Elt F) (vF m c) : S1x1024x128.Idx → Elt F .bf16) = stageVal (hd (vB m c) (sl (rk c) j)) :=
  funext fun i => congrArg₂ (fun a b => stageVal (hd (vB m c) (sl (rk c) a)) b) (emb4_0 j i) (in4_emb j i)
/-- Slot `4 p + j` of the output buffer after the exchange. -/
theorem read_oF (c : Dev nD) (p j : Fin 4) :
    ((oB.access (r16 (sl p j))).read (Elt F) (oF m c) : S1x1024x128.Idx → Elt F .bf16) = headV m (peer c p) j := by
  funext i
  refine (congrArg₂ (fun n x => headV m (peer c (rOf n)) (jOf n) x) (emb16_0 (sl p j) i) (in16_emb (sl p j) i)).trans ?_
  show headV m (peer c (rOf (sl p j))) (jOf (sl p j)) i = _
  rw [rOf_sl, jOf_sl]

/-- The buffer is the same for every device of the group. -/
theorem oF_on (c : Dev nD) (o : Fin 4) : oF m (on c o) = oF m c := by
  funext i; unfold oF; rw [peer_on]

/-! ## Owning a slot -/

/-- A share of slot `j` of a four-slot buffer of device `c`, at contents `f` of the buffer. -/
def p4 (c : Dev nD) (b : Memref sig .tc .vmem S4x1024x128 .bf16) (j : Fin 4) (f : Buf (Elt F) (b.view.loc (c : Thread nD τ))) : sProp 𝕄 :=
  b.view.loc (c : Thread nD τ) ↦[(b.access (r4 j)).set]{fullShare} f
/-- A share of slot `n` of device `c`'s output buffer. -/
def p16 (c : Dev nD) (n : Fin 16) (q : PosShare TreeShare) (f : Buf (Elt F) (oB.view.loc (c : Thread nD τ))) : sProp 𝕄 :=
  oB.view.loc (c : Thread nD τ) ↦[(oB.access (r16 n)).set]{q} f

instance p4_storable (c : Dev nD) (b j f) : BI.Storable (upEmb : UEmb _ 𝕄) (p4 (F := F) c b j f) := by unfold p4; infer_instance
instance p16_storable (c : Dev nD) (n q f) : BI.Storable (upEmb : UEmb _ 𝕄) (p16 (F := F) c n q f) := by unfold p16; infer_instance

/-- A buffer cut into slots by disjoint rectangles that cover it. -/
theorem split_slots {s : Shape} {e : EltTy} {n : ℕ} (b : Memref sig .tc .vmem s e) (hb : b.view.set = Finset.univ) (r : Fin n → Rect s)
    (h : ∀ i : s.Idx, ∃! k, i ∈ (r k).set) (c : Dev nD) (q : PosShare TreeShare) (f : Buf (Elt F) (b.view.loc (c : Thread nD τ))) :
    (b.view.loc (c : Thread nD τ) ↦[Finset.univ]{q} f : sProp 𝕄)
      = bigSep Finset.univ fun k => b.view.loc (c : Thread nD τ) ↦[(b.access (r k)).set]{q} f := by
  let K : Fin n → Finset (Idx (b.view.loc (c : Thread nD τ))) := fun k => (b.access (r k)).set
  have hset : ∀ k, K k = (r k).set.map b.view.emb := fun k => View.set_slice _ _
  have hu : (Finset.univ : Finset (Idx (b.view.loc (c : Thread nD τ)))) = Finset.univ.biUnion K := by
    refine (Finset.eq_univ_iff_forall.mpr fun i => ?_).symm
    have hi : i ∈ b.view.set := by rw [hb]; exact Finset.mem_univ _
    obtain ⟨x, -, hx⟩ := Finset.mem_map.mp hi
    obtain ⟨k, hk, -⟩ := h x
    exact Finset.mem_biUnion.mpr ⟨k, Finset.mem_univ _, by rw [hset]; exact Finset.mem_map.mpr ⟨x, hk, hx⟩⟩
  refine (congrArg (fun S => (b.view.loc (c : Thread nD τ) ↦[S]{q} f : sProp 𝕄)) hu).trans
    (pointsTo_biUnion Finset.univ K fun k _ k' _ hk => ?_)
  rw [hset, hset, Finset.disjoint_map]
  exact Finset.disjoint_left.mpr fun x hx hx' => hk ((h x).unique hx hx')

theorem split4 (c : Dev nD) (b : Memref sig .tc .vmem S4x1024x128 .bf16) (hb : b.view.set = Finset.univ) (f : Buf (Elt F) (b.view.loc (c : Thread nD τ))) :
    (b.view.loc (c : Thread nD τ) ↦[Finset.univ]{fullShare} f : sProp 𝕄) = bigSep Finset.univ fun j => p4 c b j f :=
  split_slots b hb r4 (fun i => ⟨i 0, (mem_r4 _ i).mpr rfl, fun k hk => ((mem_r4 k i).mp hk).symm⟩) c fullShare f
theorem split16 (c : Dev nD) (q : PosShare TreeShare) (f : Buf (Elt F) (oB.view.loc (c : Thread nD τ))) :
    (oB.view.loc (c : Thread nD τ) ↦[Finset.univ]{q} f : sProp 𝕄) = bigSep Finset.univ fun n => p16 c n q f :=
  split_slots oB (View.set_whole _) r16 (fun i => ⟨i 0, (mem_r16 _ i).mpr rfl, fun k hk => ((mem_r16 k i).mp hk).symm⟩) c q f

/-- The output buffer's slots, by how many ranks on their device is and by head. -/
def slE (c : Dev nD) : Fin 4 × Fin 4 ≃ Fin 16 :=
  Equiv.ofBijective (fun p => sl (rk c + p.1) p.2) (by
    refine (Fintype.bijective_iff_injective_and_card _).mpr ⟨?_, by decide⟩
    revert c; decide +kernel)
theorem split16' (c : Dev nD) (q : PosShare TreeShare) (f : Buf (Elt F) (oB.view.loc (c : Thread nD τ))) :
    (oB.view.loc (c : Thread nD τ) ↦[Finset.univ]{q} f : sProp 𝕄)
      = bigSep Finset.univ fun o : Fin 4 => bigSep Finset.univ fun j : Fin 4 => p16 c (sl (rk c + o) j) q f := by
  rw [split16, bigSep_univ_equiv (slE c), bigSep_univ_prod]; rfl

end Cert.KernelIdeal.Run
-- ==== Proof.KernelIdealRun.Schedule.lean ====
/- The protocol: what each semaphore's one round collects, who pays it, what comes with each payment,
   what a device owes at launch, and why no wait is circular. -/
module

public import proofs.«01_k».proof.Proof.KernelIdealRun.Contents

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

variable (m : (ℓ : Loc nD τ sig) → Buf (Elt F) ℓ)

/-! ## Cells -/

/-- The barrier semaphore of device `c`, and its transfer semaphores. -/
abbrev bar (c : Dev nD) : GSem nD τ sig := ((c : Thread nD τ), .reg barS)
abbrev dc (c : Dev nD) (a : Fin 12) (j : Fin 4) : GSem nD τ sig := ((c : Thread nD τ), .dma (dsem a j))

/-- The row and the column of a transfer semaphore. -/
def rowOf (s : DmaSem sig) : Fin 12 := ⟨((s : Fin sig.nDmaSem).val - 4) / 4 % 12, Nat.mod_lt _ (by decide)⟩
def colOf (s : DmaSem sig) : Fin 4 := ⟨(s : Fin sig.nDmaSem).val % 4, Nat.mod_lt _ (by decide)⟩
theorem rowOf_dsem (a : Fin 12) (j : Fin 4) : rowOf (dsem a j) = a := by revert a j; decide
theorem colOf_dsem (a : Fin 12) (j : Fin 4) : colOf (dsem a j) = j := by revert a j; decide
theorem dsem_inj {a a' : Fin 12} {j j' : Fin 4} (h : dsem a j = dsem a' j') : a = a' ∧ j = j' :=
  ⟨by rw [← rowOf_dsem a j, h, rowOf_dsem], by rw [← colOf_dsem a j, h, colOf_dsem]⟩

/-- The units one transfer of a slot credits. -/
abbrev N : ℕ := (slot4 kRe 0).view.dmaCredit
theorem N_pos : 0 < N := View.dmaCredit_pos _ (by decide)

/-! ## Payloads -/

/-- The share of its own slot that a device lends to the send `o` ranks on; the rest it keeps. -/
def sh (o : Fin 4) : PosShare TreeShare :=
  match o with
  | 1 => fullShare.right.left
  | 2 => fullShare.right.right.left
  | _ => fullShare.right.right.right

/-- A device's landing slots, whatever they hold. -/
def landFree (c : Dev nD) : sProp 𝕄 :=
  iprop((bigSep Finset.univ fun j : Fin 4 => iprop(∃ f, p4 c kRe j f)) ∗ (bigSep Finset.univ fun j : Fin 4 => iprop(∃ f, p4 c vRe j f)))
/-- A device's output slots for the heads of the device of rank `p`, whatever they hold. -/
def outFree (c : Dev nD) (p : Fin 4) : sProp 𝕄 := bigSep Finset.univ fun j : Fin 4 => iprop(∃ f, p16 c (sl p j) fullShare f)

/-- What comes with the signal number `o` that device `c` receives. -/
def barPay (c : Dev nD) (o : Fin 4) : sProp 𝕄 := if o = 0 then landFree (xn c) else outFree (on c (-o)) (rk c)

/-- What comes with the transfer at row `a` of device `c`, slot `j`. -/
def dmaPay (c : Dev nD) (a : Fin 12) (j : Fin 4) : sProp 𝕄 :=
  if a = aKx then p4 c kSt j (kF m c)
  else if a = aKr then p4 c kRe j (kF m (xn c))
  else if a = aVx then p4 c vSt j (vF m c)
  else if a = aVr then p4 c vRe j (vF m (xn c))
  else if a.val < 8 then p16 c (sl (rk c) j) (sh (⟨(a.val - 4) % 4, Nat.mod_lt _ (by decide)⟩ - rk c)) (oF m c)
  else p16 c (sl ⟨(a.val - 8) % 4, Nat.mod_lt _ (by decide)⟩ j) fullShare (oF m c)

/-- The rows in use: a device sends no head to itself. -/
def used (c : Dev nD) (a : Fin 12) : Prop := a ≠ aOx (rk c) ∧ a ≠ aOr (rk c)
instance (c : Dev nD) (a : Fin 12) : Decidable (used c a) := by unfold used; infer_instance

/-- The schedule: one round on every semaphore. -/
def Rd : Schedule (GSem nD τ sig) (Fin 4) 𝕄 where
  duties g r := if r = 0 ∧ g.1.2 = .tc then
    (match g.2 with
      | .reg _ => Finset.univ
      | .dma s => if used g.1.1 (rowOf s) then {0} else ∅)
    else ∅
  amount g r d := match g.2 with
    | .reg _ => 1
    | .dma _ => N
  payload g r d := match g.2 with
    | .reg _ => barPay g.1.1 d
    | .dma s => dmaPay m g.1.1 (rowOf s) (colOf s)
  amount_pos g r d h := by
    rcases g with ⟨t, sm⟩
    cases sm with
    | reg _ => exact Nat.one_pos
    | dma _ => exact N_pos

theorem duties_bar (c : Dev nD) : (Rd m).duties (bar c) 0 = Finset.univ := by
  dsimp only [Rd]; exact if_pos ⟨rfl, rfl⟩
theorem duties_dc (c : Dev nD) {a : Fin 12} (j : Fin 4) (h : used c a) : (Rd m).duties (dc c a j) 0 = {0} := by
  dsimp only [Rd]; rw [if_pos ⟨rfl, rfl⟩, rowOf_dsem]; exact if_pos h
theorem duties_idle (c : Dev nD) {a : Fin 12} (j : Fin 4) (h : ¬ used c a) : (Rd m).duties (dc c a j) 0 = ∅ := by
  dsimp only [Rd]; rw [if_pos ⟨rfl, rfl⟩, rowOf_dsem]; exact if_neg h
theorem duties_later (g : GSem nD τ sig) : ∀ r, 1 ≤ r → (Rd m).duties g r = ∅ :=
  fun r hr => by dsimp only [Rd]; exact if_neg fun h => by omega

theorem payload_bar (c : Dev nD) (o : Fin 4) : (Rd m).payload (bar c) 0 o = barPay c o := rfl
theorem payload_dc (c : Dev nD) (a : Fin 12) (j : Fin 4) (d : Fin 4) : (Rd m).payload (dc c a j) 0 d = dmaPay m c a j := by
  show dmaPay m c (rowOf (dsem a j)) (colOf (dsem a j)) = _; rw [rowOf_dsem, colOf_dsem]

theorem expect_bar (c : Dev nD) : (Rd m).expect (bar c) 0 = 4 := by
  unfold Schedule.expect Schedule.amountOf; rw [duties_bar]; rfl
theorem expect_dc (c : Dev nD) {a : Fin 12} (j : Fin 4) (h : used c a) : (Rd m).expect (dc c a j) 0 = N := by
  unfold Schedule.expect Schedule.amountOf; rw [duties_dc m c j h, Finset.sum_singleton]; rfl

theorem rest_bar (c : Dev nD) : bigSep ((Rd m).duties (bar c) 0 \ ∅) (fun d => (Rd m).payload (bar c) 0 d) = bigSep Finset.univ (barPay (F := F) c) := by
  rw [Finset.sdiff_empty, duties_bar]; rfl
theorem rest_dc (c : Dev nD) {a : Fin 12} (j : Fin 4) (h : used c a) :
    bigSep ((Rd m).duties (dc c a j) 0 \ ∅) (fun d => (Rd m).payload (dc c a j) 0 d) = dmaPay m c a j := by
  rw [Finset.sdiff_empty, duties_dc m c j h, bigSep_singleton, payload_dc]

theorem used_kx (c : Dev nD) : used c aKx := by revert c; decide
theorem used_kr (c : Dev nD) : used c aKr := by revert c; decide
theorem used_vx (c : Dev nD) : used c aVx := by revert c; decide
theorem used_vr (c : Dev nD) : used c aVr := by revert c; decide
theorem used_ox (c : Dev nD) (o : Fin 3) : used c (aOx (rk c + o.succ)) := by revert c o; decide
theorem used_or (c : Dev nD) (o : Fin 3) : used c (aOr (rk c + o.succ)) := by revert c o; decide
theorem used_or_on (c : Dev nD) (o : Fin 3) : used (on c o.succ) (aOr (rk c)) := by revert c o; decide
theorem not_used_ox (c : Dev nD) : ¬ used c (aOx (rk c)) := fun h => h.1 rfl
theorem not_used_or (c : Dev nD) : ¬ used c (aOr (rk c)) := fun h => h.2 rfl

theorem dmaPay_kx (c : Dev nD) (j : Fin 4) : dmaPay m c aKx j = p4 c kSt j (kF m c) := rfl
theorem dmaPay_kr (c : Dev nD) (j : Fin 4) : dmaPay m c aKr j = p4 c kRe j (kF m (xn c)) := rfl
theorem dmaPay_vx (c : Dev nD) (j : Fin 4) : dmaPay m c aVx j = p4 c vSt j (vF m c) := rfl
theorem dmaPay_vr (c : Dev nD) (j : Fin 4) : dmaPay m c aVr j = p4 c vRe j (vF m (xn c)) := rfl
theorem dmaPay_ox' (c : Dev nD) (p j : Fin 4) : dmaPay m c (aOx p) j = p16 c (sl (rk c) j) (sh (p - rk c)) (oF m c) := by
  fin_cases p <;> rfl
theorem dmaPay_ox (c : Dev nD) (o : Fin 4) (j : Fin 4) : dmaPay m c (aOx (rk c + o)) j = p16 c (sl (rk c) j) (sh o) (oF m c) := by
  rw [dmaPay_ox', show rk c + o - rk c = o from (by decide : ∀ r o : Fin 4, r + o - r = o) _ _]
theorem dmaPay_or (c : Dev nD) (p j : Fin 4) : dmaPay m c (aOr p) j = p16 c (sl p j) fullShare (oF m c) := by
  fin_cases p <;> rfl

instance Rd_storable (g : GSem nD τ sig) (r : ℕ) (d : Fin 4) : BI.Storable (upEmb : UEmb _ 𝕄) ((Rd (F := F) m).payload g r d) := by
  rcases g with ⟨t, sm⟩
  cases sm with
  | reg _ =>
    show BI.Storable _ (barPay _ _)
    unfold barPay landFree outFree
    split <;> infer_instance
  | dma s =>
    show BI.Storable _ (dmaPay m _ _ _)
    unfold dmaPay
    (repeat' split) <;> infer_instance

/-! ## Debts and levels -/

/-- A list of debts: cells and units. -/
abbrev Debts := List (GSem nD τ sig × ℕ)
/-- What is owed by a list of debts. -/
def owe : Debts → CellTallies nD τ sig Unit
  | [] => 0
  | p :: l => owe l + tallyAt p.1 () p.2

/-- The four signals' debts; a head's two transfers; a head's three sends. -/
def debtBar (c : Dev nD) : Debts := [(bar (xn c), 1), (bar (on c 1), 1), (bar (on c 2), 1), (bar (on c 3), 1)]
def debtSt (c : Dev nD) (j : Fin 4) : Debts := [(dc (xn c) aKr j, N), (dc (xn c) aVr j, N)]
def debtO (c : Dev nD) (j : Fin 4) : Debts :=
  [(dc (on c 1) (aOr (rk c)) j, N), (dc (on c 2) (aOr (rk c)) j, N), (dc (on c 3) (aOr (rk c)) j, N)]
/-- The debts of the stagings `l` and of all the heads; of the heads `l`. -/
def debtsSt (c : Dev nD) (l : List (Fin 4)) : Debts := l.flatMap (debtSt c) ++ [0, 1, 2, 3].flatMap (debtO c)
def debtsO (c : Dev nD) (l : List (Fin 4)) : Debts := l.flatMap (debtO c)
/-- What device `c` owes at launch. -/
def debts (c : Dev nD) : Debts := debtBar c ++ debtsSt c [0, 1, 2, 3]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: the barrier's below the key and value transfers', below the heads'. -/
def lvS (sm : SemLoc sig) : ℕ := match sm with
  | .reg _ => 1
  | .dma s => if s.val < 8 then 0 else if rowOf s = aKr ∨ rowOf s = aVr then 2 else if 8 ≤ (rowOf s).val then 3 else 0
def lv (g : GSem nD τ sig) (_ : Unit) : ℕ := lvS g.2

theorem owe_pos {l : Debts} {g : GSem nD τ sig} {u : Unit} (h : 0 < owe l g u) : ∃ p ∈ l, p.1 = g := by
  induction l with
  | nil => exact absurd h (Nat.lt_irrefl 0)
  | cons p l ih =>
    unfold owe at h
    rw [Pi.add_apply, Finsupp.add_apply, tallyAt_apply] at h
    by_cases hp : g = p.1
    · exact ⟨p, List.mem_cons_self, hp.symm⟩
    · rw [if_neg (fun h' => hp h'.1), Nat.add_zero] at h
      obtain ⟨q, hq, e⟩ := ih h
      exact ⟨q, List.mem_cons_of_mem _ hq, e⟩

/-- A wait whose semaphore lies strictly below everything owed is allowed. -/
theorem mayWait (c : Dev nD) (sm : SemLoc sig) (l : Debts) (ht : ∀ p ∈ l, p.1.1.2 = .tc) (h : ∀ p ∈ l, lvS sm < lvS p.1.2) :
    (levAts L lv : sProp 𝕄) ⊢ MayWait (c : Thread nD τ) sm () (owe l) :=
  MayOwe.of_cut (L := L) (lev := lv) (lvS sm) (fun p hp => by rw [Finset.mem_singleton.mp hp, L_tc]; exact Finset.mem_singleton_self _)
    (fun g u hg => by
      obtain ⟨p, hp, rfl⟩ := owe_pos hg
      unfold L; rw [if_pos (ht p hp)]; exact Finset.mem_singleton_self _)
    (fun p hp => by rw [Finset.mem_singleton.mp hp]; exact le_refl _)
    (fun g u hg => by
      obtain ⟨p, hp, rfl⟩ := owe_pos hg
      exact h p hp)

/-- Debts all of them on a device's own semaphores above a level. -/
def above (n : ℕ) (l : Debts) : Prop := ∀ p ∈ l, p.1.1.2 = .tc ∧ n < lvS p.1.2

theorem above_nil (n : ℕ) : above n [] := fun _ h => absurd h List.not_mem_nil
theorem above_append {n : ℕ} {l l' : Debts} (h : above n l) (h' : above n l') : above n (l ++ l') := fun p hp =>
  (List.mem_append.mp hp).elim (h p) (h' p)
theorem above_flatMap {ι : Type} {n : ℕ} {l : List ι} {b : ι → Debts} (h : ∀ i, above n (b i)) : above n (l.flatMap b) := fun p hp => by
  obtain ⟨i, _, hi⟩ := List.mem_flatMap.mp hp
  exact h i p hi
theorem lvS_kr (j : Fin 4) : lvS (.dma (dsem aKr j)) = 2 := by revert j; decide
theorem lvS_vr (j : Fin 4) : lvS (.dma (dsem aVr j)) = 2 := by revert j; decide
theorem lvS_or (p j : Fin 4) : lvS (.dma (dsem (aOr p) j)) = 3 := by revert p j; decide
theorem above_debtO (c : Dev nD) (j : Fin 4) : above 2 (debtO c j) := by
  intro p hp
  unfold debtO at hp
  simp only [List.mem_cons, List.not_mem_nil, or_false] at hp
  rcases hp with rfl | rfl | rfl <;> exact ⟨rfl, by rw [lvS_or]; decide⟩
theorem above_debtSt (c : Dev nD) (j : Fin 4) : above 1 (debtSt c j) := by
  intro p hp
  unfold debtSt at hp
  simp only [List.mem_cons, List.not_mem_nil, or_false] at hp
  rcases hp with rfl | rfl
  · exact ⟨rfl, by rw [lvS_kr]; decide⟩
  · exact ⟨rfl, by rw [lvS_vr]; decide⟩
theorem above_mono {n k : ℕ} (h : n ≤ k) {l : Debts} (hl : above k l) : above n l := fun p hp => ⟨(hl p hp).1, lt_of_le_of_lt h (hl p hp).2⟩
theorem above_debtsO (c : Dev nD) (l : List (Fin 4)) : above 2 (debtsO c l) := above_flatMap fun j => above_debtO c j
theorem above_debtsSt (c : Dev nD) (l : List (Fin 4)) : above 1 (debtsSt c l) :=
  above_append (above_flatMap fun j => above_debtSt c j) (above_mono (by decide) (above_debtsO c _))
theorem above_debts (c : Dev nD) : above 0 (debts c) := by
  refine above_append (fun p hp => ?_) (above_mono (by decide) (above_debtsSt c _))
  unfold debtBar at hp
  simp only [List.mem_cons, List.not_mem_nil, or_false] at hp
  rcases hp with rfl | rfl | rfl | rfl <;> exact ⟨rfl, Nat.one_pos⟩

theorem mayWait_above (c : Dev nD) (sm : SemLoc sig) {n : ℕ} (hn : lvS sm = n) {l : Debts} (h : above n l) :
    (levAts L lv : sProp 𝕄) ⊢ MayWait (c : Thread nD τ) sm () (owe l) :=
  mayWait c sm l (fun p hp => (h p hp).1) (fun p hp => hn ▸ (h p hp).2)

end Cert.KernelIdeal.Run
-- ==== Proof.KernelIdealRun.Steps.lean ====
/- One step of the function under the protocol: a signal, a transfer, a wait, a load and a store of a
   slot; each stated once, for every cell and every slot. -/
module

public import proofs.«01_k».proof.Proof.KernelIdealRun.Schedule

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-! ## Records -/

/-- A device's semaphores: the barrier's and the forty-eight transfers'. -/
abbrev CI : Type := Option (Fin 12 × Fin 4)
def osem : CI → SemLoc sig
  | none => .reg barS
  | some (a, j) => .dma (dsem a j)
abbrev kcell (ck : Dev nD × CI) : GSem nD τ sig := ((ck.1 : Thread nD τ), osem ck.2)

/-- What every device knows of a cell. -/
def know (g : GSem nD τ sig) : sProp 𝕄 := iprop((∃ κ : ℕ, cellInv ER (Rd m) κ g) ∗ reached ER g 0)
instance know_persistent (g : GSem nD τ sig) : BI.Persistent (know (F := F) m g) := by unfold know; infer_instance

/-- What every device knows: every cell, and the levels. -/
def recs : sProp 𝕄 := iprop((bigSep Finset.univ fun ck : Dev nD × CI => know m (kcell ck)) ∗ levAts L lv)
instance recs_persistent : BI.Persistent (recs (F := F) m) := by unfold recs; infer_instance

theorem recs_cell (ck : Dev nD × CI) : recs (F := F) m ⊢ know m (kcell ck) :=
  (sep_elim_left (PROP := sProp 𝕄)).trans (bigSep_elim (Finset.mem_univ ck))
theorem recs_bar (c : Dev nD) : recs (F := F) m ⊢ know m (bar c) := recs_cell m (c, none)
theorem recs_dc (c : Dev nD) (a : Fin 12) (j : Fin 4) : recs (F := F) m ⊢ know m (dc c a j) := recs_cell m (c, some (a, j))
theorem recs_mayWait (c : Dev nD) (sm : SemLoc sig) {n : ℕ} (hn : lvS sm = n) {l : Debts} (h : above n l) :
    recs (F := F) m ⊢ MayWait (c : Thread nD τ) sm () (owe l) :=
  (sep_elim_right (PROP := sProp 𝕄)).trans (mayWait_above c sm hn h)

/-! ## What a device carries -/

/-- Device `c` owes the debts of `l`. -/
def Ow (c : Dev nD) (l : Debts) : sProp 𝕄 := iprop(∃ W : Waits sig Unit, owes (c : Thread nD τ) (owe l) W)
/-- The token of the one payment of a transfer cell. -/
abbrev tok (c : Dev nD) (a : Fin 12) (j : Fin 4) : sProp 𝕄 := dutyTok ER (dc c a j) 0 (0 : Fin 4)
/-- Device `c`'s place before its transfer cell's round. -/
abbrev pos (c : Dev nD) (a : Fin 12) (j : Fin 4) : sProp 𝕄 := atPos ER (dc c a j) 0 (∅ : Finset (Fin 4)) 0
abbrev crd (c : Dev nD) (a : Fin 12) (j : Fin 4) : sProp 𝕄 := cred (tallyAt (dc c a j) () N)
/-- A transfer semaphore at zero. -/
abbrev done (c : Dev nD) (a : Fin 12) (j : Fin 4) : sProp 𝕄 := semVal (dc c a j) 0

section Steps

variable {α : Type}

/-- What a program run by device `c` needs to end in `Q`. -/
abbrev Wp (c : Dev nD) {α : Type} (e : Prog (TpuEff nD τ sig (Elt F) Λ₀ .tc) α) (Q : α → sProp 𝕄) : sProp 𝕄 :=
  wp frame (wpE (defs₀ (F := F)) 𝒱₀ (Dev.tc c : Thread nD τ) none) Set.univ e Q

/-- A signal of one unit: the device owing it hands over what goes with it. -/
theorem step_signal (c n c' : Dev nD) (hn : n = c') (o : Fin 4) (l : Debts) {k : PUnit → Prog (TpuEff nD τ sig (Elt F) Λ₀ .tc) α} {Q : α → sProp 𝕄} :
    iprop(recs m ∗ Ow c ((bar c', 1) :: l) ∗ dutyTok ER (bar c') 0 o ∗ barPay c' o)
      ⊢ iprop((Ow c l -∗ Wp c (k ⟨⟩) Q) -∗ Wp c ((semSignalWord n barS 1#32).bind k) Q) := by
  subst hn
  have hd : o ∈ (Rd m).duties (bar n) 0 := by rw [duties_bar]; exact Finset.mem_univ _
  have ha : (Rd m).amount (bar n) 0 o = 1 := rfl
  iintro ⟨#HR, HO, Ht, Hp⟩ Hk
  ihave HB := (recs_bar m n) $$ HR
  unfold know
  icases HB with ⟨⟨%κ, #HI⟩, #Hr⟩
  unfold Ow
  icases HO with ⟨%W, HO⟩
  simp only [semSignalWord, Prog.lift, Prog.bind_op, Prog.bind_ret]
  iapply (Rounds.wp_signal 𝒱₀ ER (Rd m) (Dev.tc c : Thread nD τ) none (dst := (n : Thread nD τ)) (κ := κ) (r := 0) (d := o)
      hd rfl () (owe l) rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the four signals. -/
theorem step_enter (c : Dev nD) (l : Debts) (hl : above 1 l) {k : PUnit → Prog (TpuEff nD τ sig (Elt F) Λ₀ .tc) α} {Q : α → sProp 𝕄} :
    iprop(recs m ∗ Ow c l ∗ cred (tallyAt (bar c) () 4) ∗ atPos ER (bar c) 0 (∅ : Finset (Fin 4)) 0)
      ⊢ iprop(((Ow c l ∗ semVal (bar c) 0 ∗ bigSep Finset.univ (barPay c)) -∗ Wp c (k ⟨⟩) Q)
          -∗ Wp c ((semWaitWord barS 4#32).bind k) Q) := by
  have he : 0 + 4 = (Rd m).expect (bar c) 0 := by rw [expect_bar]
  iintro ⟨#HR, HO, Hc, Ha⟩ Hk
  ihave HB := (recs_bar m c) $$ HR
  unfold know
  icases HB with ⟨⟨%κ, #HI⟩, #Hr⟩
  unfold Ow
  icases HO with ⟨%W, HO⟩
  simp only [semWaitWord, Prog.lift, Prog.bind_op, Prog.bind_ret]
  iapply (Rounds.wp_wait_rest_token 𝒱₀ ER (Rd m) (Dev.tc c : Thread nD τ) none (κ := κ)
      (wpE_semWait_eq 𝒱₀ (Dev.tc c : Thread nD τ) none Set.univ) (Set.mem_univ _) () (O := owe l) (W := W) (R := 0) (m := 0) (T := ∅)
      he) $$ [Hc HO Ha]
  · isplitr; · iexact HI
    isplitl [Hc]; · iexact Hc
    isplitl [HO]; · iexact HO
    isplitr; · iapply (recs_mayWait m c (.reg barS) rfl hl); iexact HR
    iexact Ha
  iintro ⟨HO, Ha, -, Hp⟩
  ihave Hp := (Entails.of_eq (rest_bar m c)) $$ Hp
  imod (Rounds.cell_close ER (Rd m) (Set.mem_univ κ) (fun h => h) (R := 0 + 1) (duties_later m (bar c))) $$ [Ha] with Hz
  · isplitr; · iexact HI
    iexact Ha
  iapply Hk
  isplitl [HO]; · iexists _; iexact HO
  isplitl [Hz]; · iexact Hz
  iexact Hp

/-- The wait for a transfer: its payload comes, and its semaphore is back at zero. -/
theorem step_wait (c : Dev nD) (a : Fin 12) (j : Fin 4) (hu : used c a) (l : Debts) {n : ℕ} (hv : lvS (.dma (dsem a j)) = n) (hl : above n l)
    {s : DmaSem sig} (hs : s = dsem a j) {src dst : Memref sig .tc .vmem S1024x128 .bf16} (hN : dst.view.dmaCredit = N)
    {hsrc : src.view.WordExact} {hdst : dst.view.WordExact} {k : PUnit → Prog (TpuEff nD τ sig (Elt F) Λ₀ .tc) α} {Q : α → sProp 𝕄} :
    iprop(recs m ∗ Ow c l ∗ crd c a j ∗ pos c a j)
      ⊢ iprop(((Ow c l ∗ done c a j ∗ dmaPay m c a j) -∗ Wp c (k ⟨⟩) Q)
          -∗ Wp c (.op (.waitDma2 s src dst hsrc hdst) k) Q) := by
  subst hs
  have he : 0 + N = (Rd m).expect (dc c a j) 0 := by rw [expect_dc m c j hu, Nat.zero_add]
  iintro ⟨#HR, HO, Hc, Ha⟩ Hk
  ihave HB := (recs_dc m c a j) $$ HR
  unfold know
  icases HB with ⟨⟨%κ, #HI⟩, #Hr⟩
  unfold Ow
  icases HO with ⟨%W, HO⟩
  iapply (Rounds.wp_wait_rest_token 𝒱₀ ER (Rd m) (Dev.tc c : Thread nD τ) none (κ := κ) (k' := N)
      (fun K => (wpE_waitDma2_eq 𝒱₀ (Dev.tc c : Thread nD τ) none Set.univ K).trans (by rw [hN])) (Set.mem_univ _) () (O := owe l) (W := W) (R := 0) (m := 0) (T := ∅)
      he) $$ [Hc HO Ha]
  · isplitr; · iexact HI
    isplitl [Hc]; · iexact Hc
    isplitl [HO]; · iexact HO
    isplitr; · iapply (recs_mayWait m c (.dma (dsem a j)) hv hl); iexact HR
    iexact Ha
  iintro ⟨HO, Ha, -, Hp⟩
  ihave Hp := (Entails.of_eq (rest_dc m c j hu)) $$ Hp
  imod (Rounds.cell_close ER (Rd m) (Set.mem_univ κ) (fun h => h) (R := 0 + 1) (duties_later m (dc c a j))) $$ [Ha] with Hz
  · isplitr; · iexact HI
    iexact Ha
  iapply Hk
  isplitl [HO]; · iexists _; iexact HO
  isplitl [Hz]; · iexact Hz
  iexact Hp

/-- A semaphore nobody uses is at zero. -/
theorem close_idle (c : Dev nD) (a : Fin 12) (j : Fin 4) (hu : ¬ used c a) :
    iprop(recs m ∗ pos c a j) ⊢ (iprop(|={Set.univ}=> done c a j) : sProp 𝕄) := by
  iintro ⟨#HR, Ha⟩
  ihave HB := (recs_dc m c a j) $$ HR
  unfold know
  icases HB with ⟨⟨%κ, #HI⟩, #Hr⟩
  iapply (Rounds.cell_close ER (Rd m) (Set.mem_univ κ) (fun h => h) (R := 0) (fun r _ => by
    rcases Nat.eq_zero_or_pos r with rfl | hr
    · exact duties_idle m c j hu
    · exact duties_later m (dc c a j) r hr))
  isplitr; · iexact HI
  iexact Ha

/-- A transfer of a slot: the reader's share and the receiver's slot go out, the sender's read-out credit comes. -/
theorem step_send (c n c' : Dev nD) (hn : n = c') (aS aR : Fin 12) (j : Fin 4) (hS : used c aS) (hR : used c' aR) (l : Debts)
    {sS sR : DmaSem sig} (hsS : sS = dsem aS j) (hsR : sR = dsem aR j)
    {src dst : Memref sig .tc .vmem S1024x128 .bf16} (hN : dst.view.dmaCredit = N) {hsc : dst.view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} {Q : α → sProp 𝕄} {q : PosShare TreeShare}
    (fs : Buf (Elt F) (src.view.loc (Dev.tc c : Thread nD τ))) (fd : Buf (Elt F) (dst.view.loc (Dev.tc c' : Thread nD τ)))
    (hp₁ : (src.view.loc (Dev.tc c : Thread nD τ) ↦[src.view.set]{q} fs) ⊢ dmaPay m c aS j)
    (hp₂ : (dst.view.loc (Dev.tc c' : Thread nD τ) ↦[dst.view.set]{fullShare} (dst.view.write (Elt F) fd (src.view.read (Elt F) fs) Finset.univ)) ⊢ dmaPay m c' aR j) :
    iprop(recs m ∗ Ow c ((dc c' aR j, N) :: l) ∗ (src.view.loc (Dev.tc c : Thread nD τ) ↦[src.view.set]{q} fs)
        ∗ (dst.view.loc (Dev.tc c' : Thread nD τ) ↦[dst.view.set]{fullShare} fd) ∗ tok c aS j ∗ tok c' aR j)
      ⊢ iprop(((Ow c l ∗ crd c aS j) -∗ Wp c (k ⟨⟩) Q)
          -∗ Wp c (.op (.enqueueDma src (.remote (Dev.tc n : Thread nD τ) dst (.dma sS) hsc) (.dma sR) hsrc hdst hsem) k) Q) := by
  subst hn hsS hsR
  have h₁ : (0 : Fin 4) ∈ (Rd m).duties (dc c aS j) 0 := by rw [duties_dc m c j hS]; exact Finset.mem_singleton_self _
  have h₂ : (0 : Fin 4) ∈ (Rd m).duties (dc n aR j) 0 := by rw [duties_dc m n j hR]; exact Finset.mem_singleton_self _
  rw [← payload_dc m c aS j 0] at hp₁
  rw [← payload_dc m n aR j 0] at hp₂
  iintro ⟨#HR, HO, Hs, Hd, HtS, HtR⟩ Hk
  ihave HB := (recs_dc m c aS j) $$ HR
  ihave HB' := (recs_dc m n aR j) $$ HR
  unfold know
  icases HB with ⟨⟨%κ, #HI⟩, #Hr⟩
  icases HB' with ⟨⟨%κ', #HI'⟩, #Hr'⟩
  unfold Ow
  icases HO with ⟨%W, HO⟩
  iapply (Rounds.wp_send_pointsTo 𝒱₀ ER (Rd m) (Dev.tc c : Thread nD τ) none (κ₁ := κ) (κ₂ := κ')
    (r₁ := 0) (r₂ := 0) (d₁ := (0 : Fin 4)) (d₂ := (0 : Fin 4)) (fs := fs) (fd := fd) (q := q)
    h₁ h₂
    () () N (show dst.view.amount (.dma (dsem aR j)) = N from hN) rfl rfl (owe l) rfl (W := W)
    hp₁ hp₂) $$ [HO Hs Hd HtS HtR]
  · isplitr; · iexact HI
    isplitr; · iexact HI'
    isplitl [Hs]; · iexact Hs
    isplitl [Hd]; · iexact Hd
    isplitl [HO]; · iexact HO
    isplitl [HtS]; · iexact HtS
    isplitr; · iexact Hr
    isplitl [HtR]; · iexact HtR
    iexact Hr'
  iintro ⟨Hc, HO⟩
  iapply Hk
  isplitl [HO]; · iexists W; iexact HO
  iexact Hc

end Steps

end Cert.KernelIdeal.Run
-- ==== Proof.KernelIdealRun.Slots.lean ====
/- What the blocks are made of: loads, stores and the slots of the buffers, families of slots and the shares a slot
   is split into, and how block triples follow one another. -/
module

public import proofs.«01_k».proof.Proof.KernelIdealRun.Steps

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Triples -/

/-- From `A` the block `b` runs, on device `c`, into whatever follows it, and leaves `B`. -/
def Tri (c : Dev nD) (A : sProp 𝕄) (b : Pr F → Pr F) (B : sProp 𝕄) : Prop :=
  ∀ (k : Pr F) (Q : PUnit → sProp 𝕄), A ⊢ iprop((B -∗ Wp c k Q) -∗ Wp c (b k) Q)

theorem Tri.frame {c : Dev nD} {A B : sProp 𝕄} {b : Pr F → Pr F} (h : Tri c A b B) (R : sProp 𝕄) :
    Tri c iprop(A ∗ R) b iprop(B ∗ R) := by
  intro k Q
  iintro ⟨HA, HR⟩ Hk
  iapply (h k Q) $$ HA
  iintro HB
  iapply Hk
  isplitl [HB] <;> iassumption

theorem Tri.pre {c : Dev nD} {A A' B : sProp 𝕄} {b : Pr F → Pr F} (h : Tri c A b B) (e : A' ⊢ A) : Tri c A' b B :=
  fun k Q => e.trans (h k Q)

theorem Tri.seq {c : Dev nD} {A B C : sProp 𝕄} {b b' : Pr F → Pr F} (h : Tri c A b B) (h' : Tri c B b' C) :
    Tri c A (fun k => b (b' k)) C := by
  intro k Q
  iintro HA Hk
  iapply (h (b' k) Q) $$ HA
  iintro HB
  iapply (h' k Q) $$ HB
  iexact Hk

/-- What a list of indices needs, or leaves. -/
def each {ι : Type} (P : ι → sProp 𝕄) : List ι → sProp 𝕄
  | [] => iprop(emp)
  | i :: l => iprop(P i ∗ each P l)

/-- A block run for every index of a list, with a resource `R` that knows what is left to do. -/
theorem Tri.forEach {ι : Type} {c : Dev nD} (R : List ι → sProp 𝕄) (P P' : ι → sProp 𝕄) (b : ι → Pr F → Pr F)
    (h : ∀ i l, Tri c iprop(R (i :: l) ∗ P i) (b i) iprop(R l ∗ P' i)) (l : List ι) :
    Tri c iprop(R l ∗ each P l) (forEach b l) iprop(R [] ∗ each P' l) := by
  induction l with
  | nil =>
    intro k Q
    iintro HA Hk
    iapply Hk; iexact HA
  | cons i l ih =>
    intro k Q
    show _ ⊢ iprop(_ -∗ Wp c (b i (Run.forEach b l k)) Q)
    unfold each
    iintro ⟨HR, HP, Hl⟩ Hk
    iapply (h i l (Run.forEach b l k) Q) $$ [HR HP]
    · isplitl [HR] <;> iassumption
    iintro ⟨HR, HP⟩
    iapply (ih k Q) $$ [HR Hl]
    · isplitl [HR] <;> iassumption
    iintro ⟨HR, Hl⟩
    iapply Hk
    isplitl [HR]; · iexact HR
    isplitl [HP] <;> iassumption

/-! ## Finite families -/

theorem big_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl
theorem big_three (Φ : Fin 3 → sProp 𝕄) : bigSep Finset.univ Φ = iprop(Φ 0 ∗ Φ 1 ∗ Φ 2) := by
  rw [big_succ, big_succ, bigSep_univ_of_subsingleton (0 : Fin 1)]; rfl
theorem big_four (Φ : Fin 4 → sProp 𝕄) : bigSep Finset.univ Φ = iprop(Φ 0 ∗ Φ 1 ∗ Φ 2 ∗ Φ 3) := by
  rw [big_succ, big_three]; rfl
theorem each_eq {ι : Type} [DecidableEq ι] (P : ι → sProp 𝕄) (l : List ι) (hn : l.Nodup) : each P l = bigSep l.toFinset P := by
  induction l with
  | nil => rw [List.toFinset_nil, bigSep_empty]; rfl
  | cons i l ih =>
    rw [List.toFinset_cons, bigSep_insert (fun h => (List.nodup_cons.mp hn).1 (List.mem_toFinset.mp h)), ← ih (List.nodup_cons.mp hn).2]; rfl
theorem each_four (P : Fin 4 → sProp 𝕄) : each P [0, 1, 2, 3] = bigSep Finset.univ P := by
  rw [each_eq _ _ (by decide)]; congr 1
theorem each_twelve (P : Fin 12 → sProp 𝕄) : each P [0, 1, 2, 3, 4, 5, 6, 7, 8, 9, 10, 11] = bigSep Finset.univ P := by
  rw [each_eq _ _ (by decide)]; congr 1

/-! ## Slots -/

theorem slot4_set (b : Memref sig .tc .vmem S4x1024x128 .bf16) (j : Fin 4) : (slot4 b j).view.set = (b.access (r4 j)).set :=
  View.set_reshape _ _
theorem slot16_set (n : Fin 16) : (slot16 ![n.val, 0, 0] (inb16 n)).view.set = (oB.access (r16 n)).set :=
  View.set_reshape _ _
theorem slot16_eq {off : Fin 3 → Nat} (h : ∀ a, off a + S1x1024x128.size a ≤ S16x1024x128.size a) {n : Fin 16} (e : off = ![n.val, 0, 0]) :
    slot16 off h = slot16 ![n.val, 0, 0] (inb16 n) := by subst e; rfl
theorem oSlot_eq (c : Dev nD) (j : Fin 4) : oSlot c j = slot16 ![(sl (rk c) j).val, 0, 0] (inb16 _) := slot16_eq _ (off5 c j)
theorem iSlot_eq (c : Dev nD) (i : Fin 12) : iSlot c i = slot16 ![(sl (rk c + (ro c i).succ) (rj i)).val, 0, 0] (inb16 _) := slot16_eq _ (off13 c i)

/-- Half of a slot kept, three parts lent. -/
theorem p16_lend (c : Dev nD) (n : Fin 16) (f : Buf (Elt F) (oB.view.loc (c : Thread nD τ))) :
    (p16 c n fullShare f : sProp 𝕄) ⊣⊢ iprop(p16 c n fullShare.left f ∗ p16 c n fullShare.right f) :=
  pointsTo_share (PosShare.mem_left_op_right _)
theorem p16_parts (c : Dev nD) (n : Fin 16) (f : Buf (Elt F) (oB.view.loc (c : Thread nD τ))) :
    (p16 c n fullShare.right f : sProp 𝕄) ⊣⊢ bigSep Finset.univ fun o : Fin 3 => p16 c n (sh o.succ) f := by
  rw [big_three]
  have h₁ : (p16 c n fullShare.right f : sProp 𝕄) ⊣⊢ iprop(p16 c n fullShare.right.left f ∗ p16 c n fullShare.right.right f) :=
    pointsTo_share (PosShare.mem_left_op_right _)
  have h₂ : (p16 c n fullShare.right.right f : sProp 𝕄) ⊣⊢ iprop(p16 c n fullShare.right.right.left f ∗ p16 c n fullShare.right.right.right f) :=
    pointsTo_share (PosShare.mem_left_op_right _)
  exact ⟨h₁.1.trans (sep_mono_right h₂.1), (sep_mono_right h₂.2).trans h₁.2⟩

/-! ## Loads and stores of a slot -/

/-- A load of a head of a staged block. -/
theorem step_head (c : Dev nD) (b : Memref sig .tc .vmem S1x1024x16x128 .f32) (j : Fin 4) {q : PosShare TreeShare}
    (X : Buf (Elt F) (b.view.loc (c : Thread nD τ))) {hl : b.view.LoadsAt (rH c j).toLoadRect} {k : Vec F S1x1024x1x128 .f32 → Pr F} {Q : PUnit → sProp 𝕄} :
    (b.view.loc (c : Thread nD τ) ↦{q} X)
      ⊢ iprop(((b.view.loc (c : Thread nD τ) ↦{q} X) -∗ Wp c (k ((b.access (rHead (sl (rk c) j))).read (Elt F) X)) Q)
          -∗ Wp c (.op (.load b (rH c j).toLoadRect hl) k) Q) := by
  have h := read_head (F := F) b c j X
  rw [← h]
  exact wp_load_rect 𝒱₀ (Dev.tc c : Thread nD τ) none Set.univ (m := b) (r := rH c j) (Finset.subset_univ _)

/-- A load through a rectangle of a buffer, of which the rectangle is held. -/
theorem step_load {s : Shape} {e : EltTy} (c : Dev nD) (b : Memref sig .tc .vmem s e) (r : Rect s) {q : PosShare TreeShare}
    (f : Buf (Elt F) (b.view.loc (c : Thread nD τ))) {hl : b.view.LoadsAt r.toLoadRect} {k : (r.shape.Idx → Elt F e) → Pr F} {Q : PUnit → sProp 𝕄} :
    (b.view.loc (c : Thread nD τ) ↦[(b.access r).set]{q} f)
      ⊢ iprop(((b.view.loc (c : Thread nD τ) ↦[(b.access r).set]{q} f) -∗ Wp c (k ((b.access r).read (Elt F) f)) Q)
          -∗ Wp c (.op (.load b r.toLoadRect hl) k) Q) :=
  wp_load_rect 𝒱₀ (Dev.tc c : Thread nD τ) none Set.univ (m := b) (r := r) (hl := hl) (k := k) (q := q) (f := f) (Finset.Subset.refl _)

/-- A store through a rectangle: it then holds any contents that read as what was stored. -/
theorem step_store {s : Shape} {e : EltTy} (c : Dev nD) (b : Memref sig .tc .vmem s e) (r : Rect s)
    (f G : Buf (Elt F) (b.view.loc (c : Thread nD τ))) (w : r.shape.Idx → Elt F e) (hG : (b.access r).read (Elt F) G = w)
    {hx : (b.access r).Stores Finset.univ} {hm} {k : PUnit → Pr F} {Q : PUnit → sProp 𝕄} :
    (b.view.loc (c : Thread nD τ) ↦[(b.access r).set]{fullShare} f)
      ⊢ iprop(((b.view.loc (c : Thread nD τ) ↦[(b.access r).set]{fullShare} G) -∗ Wp c (k ⟨⟩) Q)
          -∗ Wp c (.op (.store b r w Finset.univ hx hm) k) Q) := by
  have e : (b.view.loc (c : Thread nD τ) ↦[(b.access r).set]{fullShare} ((b.access r).write (Elt F) f w Finset.univ) : sProp 𝕄)
      = (b.view.loc (c : Thread nD τ) ↦[(b.access r).set]{fullShare} G) := pointsTo_congr (write_agree (b.access r) f G w hG)
  exact (wp_store 𝒱₀ (Dev.tc c : Thread nD τ) none Set.univ (m := b) (r := r) (w := w) (Mk := Finset.univ) (hx := hx) (hm := hm) (k := k)
    (f := f) (S := (b.access r).set) (Finset.Subset.refl _)).trans (wand_mono_left (wand_mono_left (Entails.of_eq e)))

end Cert.KernelIdeal.Run
-- ==== Proof.KernelIdealRun.Blocks.lean ====
/- The function's blocks under the protocol: what each needs, and what it leaves. Every block is proved for an
   arbitrary device, head and continuation. -/
module

public import proofs.«01_k».proof.Proof.KernelIdealRun.Slots

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Staging and its two transfers -/

/-- A staged block of device `c`, whole. -/
abbrev blkAt (c : Dev nD) (b : Memref sig .tc .vmem S1x1024x16x128 .f32) (X : Buf (Elt F) (b.view.loc (c : Thread nD τ))) : sProp 𝕄 :=
  b.view.loc (c : Thread nD τ) ↦{fullShare} X

/-- One head of one operand staged. -/
theorem stage_tri (c : Dev nD) (j : Fin 4) (src : Memref sig .tc .vmem S1x1024x16x128 .f32) (dst : Memref sig .tc .vmem S4x1024x128 .bf16) (hd : dst.IsWhole)
    (X : Buf (Elt F) (src.view.loc (c : Thread nD τ))) (G : Buf (Elt F) (dst.view.loc (c : Thread nD τ)))
    (hG : (dst.access (r4 j)).read (Elt F) G = stageVal ((src.access (rHead (sl (rk c) j))).read (Elt F) X)) :
    Tri c iprop(blkAt c src X ∗ ∃ f, p4 c dst j f) (stage c j src dst hd) iprop(blkAt c src X ∗ p4 c dst j G) := by
  intro k Q
  unfold stage p4
  iintro ⟨HX, ⟨%f, Hp⟩⟩ Hk
  iapply (step_head c src j X) $$ HX
  iintro HX
  iapply (step_load c dst (r4 j) f) $$ Hp
  iintro Hp
  iapply (step_store c dst (r4 j) f G _ hG) $$ Hp
  iintro Hp
  iapply Hk
  isplitl [HX] <;> iassumption

/-- A slot as a transfer names it. -/
theorem pt4 (c : Dev nD) (b : Memref sig .tc .vmem S4x1024x128 .bf16) (j : Fin 4) (f : Buf (Elt F) (b.view.loc (c : Thread nD τ))) :
    ((slot4 b j).view.loc (c : Thread nD τ) ↦[(slot4 b j).view.set]{fullShare} f : sProp 𝕄) = p4 c b j f :=
  congrArg (fun S => (b.view.loc (c : Thread nD τ) ↦[S]{fullShare} f : sProp 𝕄)) (slot4_set b j)
theorem pt16 (c : Dev nD) (n : Fin 16) (q : PosShare TreeShare) (f : Buf (Elt F) (oB.view.loc (c : Thread nD τ))) :
    ((slot16 ![n.val, 0, 0] (inb16 n)).view.loc (c : Thread nD τ) ↦[(slot16 ![n.val, 0, 0] (inb16 n)).view.set]{q} f : sProp 𝕄) = p16 c n q f :=
  congrArg (fun S => (oB.view.loc (c : Thread nD τ) ↦[S]{q} f : sProp 𝕄)) (slot16_set n)

/-- What a landing slot holds once a transfer of contents `G` has landed in it. -/
theorem land {s : Shape} {e : EltTy} (c : Dev nD) (d : Memref sig .tc .vmem s e) (fd G : Buf (Elt F) (d.view.loc (c : Thread nD τ)))
    (w : s.Idx → Elt F e) (h : d.view.read (Elt F) G = w) :
    (d.view.loc (c : Thread nD τ) ↦[d.view.set]{fullShare} (d.view.write (Elt F) fd w Finset.univ) : sProp 𝕄)
      = (d.view.loc (c : Thread nD τ) ↦[d.view.set]{fullShare} G) := pointsTo_congr (write_agree d.view fd G w h)

theorem sendSt_tri (c : Dev nD) (j : Fin 4) (l : Debts) :
    Tri c iprop(recs m ∗ Ow c ((dc (xn c) aKr j, N) :: l) ∗ p4 c kSt j (kF m c) ∗ (∃ f, p4 (xn c) kRe j f) ∗ tok c aKx j ∗ tok (xn c) aKr j)
      (sendSt j (kDev c j)) iprop(Ow c l ∗ crd c aKx j) := by
  intro k Q
  have h₁ : ((slot4 kSt j).view.loc (c : Thread nD τ) ↦[(slot4 kSt j).view.set]{fullShare} (kF m c) : sProp 𝕄) ⊢ dmaPay m c aKx j :=
    Entails.of_eq (pt4 c kSt j _)
  have h₂ : ∀ fd : Buf (Elt F) (kRe.view.loc (xn c : Thread nD τ)),
      ((slot4 kRe j).view.loc (xn c : Thread nD τ) ↦[(slot4 kRe j).view.set]{fullShare}
        ((slot4 kRe j).view.write (Elt F) fd ((slot4 kSt j).view.read (Elt F) (kF m c)) Finset.univ) : sProp 𝕄) ⊢ dmaPay m (xn c) aKr j := fun fd => by
    rw [dmaPay_kr, xn_xn]
    exact Entails.of_eq ((land (xn c) (slot4 kRe j) fd (kF m c) _ rfl).trans (pt4 (xn c) kRe j _))
  unfold sendSt
  iintro ⟨#HR, HO, Hs, ⟨%fd, Hd⟩, Ht, Ht'⟩ Hk
  iapply (step_send m (src := slot4 kSt j) (dst := slot4 kRe j) c (kDev c j) (xn c) (kDev_eq c j) aKx aKr j (used_kx c) (used_kr (xn c)) l (sem5 j) (sem6 j) rfl (kF m c) fd h₁ (h₂ fd)) $$ [HO Hs Hd Ht Ht']
  · isplitr; · iexact HR
    isplitl [HO]; · iexact HO
    isplitl [Hs]; · rw [pt4 c kSt j]; iexact Hs
    isplitl [Hd]; · rw [pt4 (xn c) kRe j]; iexact Hd
    isplitl [Ht] <;> iassumption
  iexact Hk

theorem sendSv_tri (c : Dev nD) (j : Fin 4) (l : Debts) :
    Tri c iprop(recs m ∗ Ow c ((dc (xn c) aVr j, N) :: l) ∗ p4 c vSt j (vF m c) ∗ (∃ f, p4 (xn c) vRe j f) ∗ tok c aVx j ∗ tok (xn c) aVr j)
      (sendSv j (vDev c j)) iprop(Ow c l ∗ crd c aVx j) := by
  intro k Q
  have h₁ : ((slot4 vSt j).view.loc (c : Thread nD τ) ↦[(slot4 vSt j).view.set]{fullShare} (vF m c) : sProp 𝕄) ⊢ dmaPay m c aVx j :=
    Entails.of_eq (pt4 c vSt j _)
  have h₂ : ∀ fd : Buf (Elt F) (vRe.view.loc (xn c : Thread nD τ)),
      ((slot4 vRe j).view.loc (xn c : Thread nD τ) ↦[(slot4 vRe j).view.set]{fullShare}
        ((slot4 vRe j).view.write (Elt F) fd ((slot4 vSt j).view.read (Elt F) (vF m c)) Finset.univ) : sProp 𝕄) ⊢ dmaPay m (xn c) aVr j := fun fd => by
    rw [dmaPay_vr, xn_xn]
    exact Entails.of_eq ((land (xn c) (slot4 vRe j) fd (vF m c) _ rfl).trans (pt4 (xn c) vRe j _))
  unfold sendSv
  iintro ⟨#HR, HO, Hs, ⟨%fd, Hd⟩, Ht, Ht'⟩ Hk
  iapply (step_send m (src := slot4 vSt j) (dst := slot4 vRe j) c (vDev c j) (xn c) (vDev_eq c j) aVx aVr j (used_vx c) (used_vr (xn c)) l (sem7 j) (sem8 j) rfl (vF m c) fd h₁ (h₂ fd)) $$ [HO Hs Hd Ht Ht']
  · isplitr; · iexact HR
    isplitl [HO]; · iexact HO
    isplitl [Hs]; · rw [pt4 c vSt j]; iexact Hs
    isplitl [Hd]; · rw [pt4 (xn c) vRe j]; iexact Hd
    isplitl [Ht] <;> iassumption
  iexact Hk

/-- What staging and sending head `j` needs, and what it leaves. -/
def stageIn (c : Dev nD) (j : Fin 4) : sProp 𝕄 :=
  iprop((∃ f, p4 c kSt j f) ∗ (∃ f, p4 c vSt j f) ∗ (∃ f, p4 (xn c) kRe j f) ∗ (∃ f, p4 (xn c) vRe j f)
    ∗ (tok c aKx j ∗ tok (xn c) aKr j) ∗ tok c aVx j ∗ tok (xn c) aVr j)
def stageOut (c : Dev nD) (j : Fin 4) : sProp 𝕄 := iprop(crd c aKx j ∗ crd c aVx j)

/-- A staged head of one block is that of another at equal contents. -/
theorem stageBlk_tri (c : Dev nD) (j : Fin 4) (l : List (Fin 4)) :
    Tri c iprop((recs m ∗ Ow c (debtsSt c (j :: l)) ∗ blkAt c kM (kB m c) ∗ blkAt c vM (vB m c)) ∗ stageIn c j)
      (stageBlk c j (kDev c j) (vDev c j)) iprop((recs m ∗ Ow c (debtsSt c l) ∗ blkAt c kM (kB m c) ∗ blkAt c vM (vB m c)) ∗ stageOut c j) := by
  intro k Q
  unfold stageBlk stageIn stageOut
  iintro ⟨⟨#HR, HO, HK, HV⟩, Hks, Hvs, Hkr, Hvr, ⟨Ht1, Ht2⟩, Ht3, Ht4⟩ Hk
  iapply (stage_tri c j kM kSt kSt_whole (kB m c) (kF m c) (read_kF m c j) _ Q) $$ [HK Hks]
  · isplitl [HK] <;> iassumption
  iintro ⟨HK, Hks⟩
  iapply (stage_tri c j vM vSt vSt_whole (vB m c) (vF m c) (read_vF m c j) _ Q) $$ [HV Hvs]
  · isplitl [HV] <;> iassumption
  iintro ⟨HV, Hvs⟩
  iapply (sendSt_tri m c j ((dc (xn c) aVr j, N) :: debtsSt c l) _ Q) $$ [HO Hks Hkr Ht1 Ht2]
  · isplitr; · iexact HR
    isplitl [HO]; · iexact HO
    isplitl [Hks]; · iexact Hks
    isplitl [Hkr]; · iexact Hkr
    isplitl [Ht1] <;> iassumption
  iintro ⟨HO, Hc1⟩
  iapply (sendSv_tri m c j (debtsSt c l) _ Q) $$ [HO Hvs Hvr Ht3 Ht4]
  · isplitr; · iexact HR
    isplitl [HO]; · iexact HO
    isplitl [Hvs]; · iexact Hvs
    isplitl [Hvr]; · iexact Hvr
    isplitl [Ht3] <;> iassumption
  iintro ⟨HO, Hc2⟩
  iapply Hk
  isplitl [HO HK HV]
  · isplitr; · iexact HR
    isplitl [HO]; · iexact HO
    isplitl [HK] <;> iassumption
  isplitl [Hc1] <;> iassumption

/-! ## A head and its sends -/

/-- A wait for a transfer between four-slot buffers. -/
theorem wait4_tri (c : Dev nD) (a : Fin 12) (j : Fin 4) (hu : used c a) (l : Debts) {n : ℕ} (hv : lvS (.dma (dsem a j)) = n) (hl : above n l)
    {s : DmaSem sig} (hs : s = dsem a j) (src dst : Memref sig .tc .vmem S4x1024x128 .bf16) (h : src.IsWhole) (h' : dst.IsWhole)
    (hN : (slot4 dst j).view.dmaCredit = N) :
    Tri c iprop(recs m ∗ Ow c l ∗ crd c a j ∗ pos c a j) (wait4 s src dst h h' j) iprop(Ow c l ∗ done c a j ∗ dmaPay m c a j) := by
  intro k Q
  unfold wait4
  exact step_wait m c a j hu l hv hl hs (src := slot4 src j) (dst := slot4 dst j) hN (k := fun _ => k)

/-- A load of a slot of the output buffer, and a store, at an offset equal to the slot's. -/
theorem load16 (c : Dev nD) {off : Fin 3 → Nat} {h : ∀ a, off a + S1x1024x128.size a ≤ S16x1024x128.size a} {n : Fin 16} (e : off = ![n.val, 0, 0])
    (f : Buf (Elt F) (oB.view.loc (c : Thread nD τ))) {hl : oB.view.LoadsAt (Rect.unit (s := S16x1024x128) off S1x1024x128.size h).toLoadRect}
    {k : Vec F S1x1024x128 .bf16 → Pr F} {Q : PUnit → sProp 𝕄} :
    (p16 c n fullShare f) ⊢ iprop((∀ x, p16 c n fullShare f -∗ Wp c (k x) Q)
        -∗ Wp c (.op (.load oB (Rect.unit (s := S16x1024x128) off S1x1024x128.size h).toLoadRect hl) k) Q) := by
  subst e
  iintro H Hk
  unfold p16
  iapply (step_load c oB (r16 n) f (k := k)) $$ H
  iintro H
  iapply Hk; iexact H
theorem store16 (c : Dev nD) {off : Fin 3 → Nat} {h : ∀ a, off a + S1x1024x128.size a ≤ S16x1024x128.size a} {n : Fin 16} (e : off = ![n.val, 0, 0])
    (f G : Buf (Elt F) (oB.view.loc (c : Thread nD τ))) (w : FVec F S1x1024x128 .bf16) (hG : (oB.access (r16 n)).read (Elt F) G = w)
    {hx : (oB.access (Rect.unit (s := S16x1024x128) off S1x1024x128.size h)).Stores Finset.univ} {hm} {k : PUnit → Pr F} {Q : PUnit → sProp 𝕄} :
    (p16 c n fullShare f) ⊢ iprop((p16 c n fullShare G -∗ Wp c (k ⟨⟩) Q)
        -∗ Wp c (.op (.store oB (Rect.unit (s := S16x1024x128) off S1x1024x128.size h) w Finset.univ hx hm) k) Q) := by
  subst e
  exact step_store c oB (r16 n) f G w hG

def headIn (c : Dev nD) (j : Fin 4) : sProp 𝕄 :=
  iprop((crd c aKr j ∗ pos c aKr j) ∗ (crd c aVr j ∗ pos c aVr j) ∗ ∃ f, p16 c (sl (rk c) j) fullShare f)
def headOut (c : Dev nD) (j : Fin 4) : sProp 𝕄 :=
  iprop((done c aKr j ∗ done c aVr j) ∗ (p4 c kRe j (kF m (xn c)) ∗ p4 c vRe j (vF m (xn c))) ∗ p16 c (sl (rk c) j) fullShare (oF m c))

/-- Slot `j` of a landing buffer holds the other device's staged head. -/
theorem read_kRe (c : Dev nD) (j : Fin 4) :
    ((kRe.access (r4 j)).read (Elt F) (kF m (xn c)) : S1x1024x128.Idx → Elt F .bf16) = stageVal (hd (kB m (xn c)) (sl (rk c) j)) := by
  have h := read_kF m (xn c) j
  rw [rk_xn] at h; exact h
theorem read_vRe (c : Dev nD) (j : Fin 4) :
    ((vRe.access (r4 j)).read (Elt F) (vF m (xn c)) : S1x1024x128.Idx → Elt F .bf16) = stageVal (hd (vB m (xn c)) (sl (rk c) j)) := by
  have h := read_vF m (xn c) j
  rw [rk_xn] at h; exact h
/-- A device's own slot holds what its head's store writes. -/
theorem read_own (c : Dev nD) (j : Fin 4) :
    ((oB.access (r16 (sl (rk c) j))).read (Elt F) (oF m c) : S1x1024x128.Idx → Elt F .bf16)
      = headVal (hd (qB m c) (sl (rk c) j)) (hd (kB m c) (sl (rk c) j)) (hd (vB m c) (sl (rk c) j))
          ((kRe.access (r4 j)).read (Elt F) (kF m (xn c))) ((vRe.access (r4 j)).read (Elt F) (vF m (xn c))) := by
  rw [read_kRe, read_vRe]
  refine (read_oF m c (rk c) j).trans ?_
  rw [peer_rk]; rfl

theorem headBlk_tri (c : Dev nD) (j : Fin 4) (l : Debts) (hl : above 2 l) :
    Tri c iprop((recs m ∗ Ow c l ∗ blkAt c qM (qB m c) ∗ blkAt c kM (kB m c) ∗ blkAt c vM (vB m c)) ∗ headIn c j) (headBlk c j)
      iprop((recs m ∗ Ow c l ∗ blkAt c qM (qB m c) ∗ blkAt c kM (kB m c) ∗ blkAt c vM (vB m c)) ∗ headOut m c j) := by
  intro k Q
  unfold headBlk headIn headOut
  iintro ⟨⟨#HR, HO, HQ, HK, HV⟩, ⟨Hc1, Ha1⟩, ⟨Hc2, Ha2⟩, ⟨%f, Hp⟩⟩ Hk
  iapply (step_head c qM j (qB m c)) $$ HQ
  iintro HQ
  iapply (step_head c kM j (kB m c)) $$ HK
  iintro HK
  iapply (step_head c vM j (vB m c)) $$ HV
  iintro HV
  iapply (wait4_tri m c aKr j (used_kr c) l (lvS_kr j) hl (sem6 j) kSt kRe kSt_whole kRe_whole rfl _ Q) $$ [HO Hc1 Ha1]
  · isplitr; · iexact HR
    isplitl [HO]; · iexact HO
    isplitl [Hc1] <;> iassumption
  iintro ⟨HO, Hd1, Hkr⟩
  iapply (wait4_tri m c aVr j (used_vr c) l (lvS_vr j) hl (sem8 j) vSt vRe vSt_whole vRe_whole rfl _ Q) $$ [HO Hc2 Ha2]
  · isplitr; · iexact HR
    isplitl [HO]; · iexact HO
    isplitl [Hc2] <;> iassumption
  iintro ⟨HO, Hd2, Hvr⟩
  ihave Hkr := (Entails.of_eq (dmaPay_kr m c j)) $$ Hkr
  ihave Hvr := (Entails.of_eq (dmaPay_vr m c j)) $$ Hvr
  unfold p4
  iapply (step_load c kRe (r4 j) (kF m (xn c))) $$ Hkr
  iintro Hkr
  iapply (step_load c vRe (r4 j) (vF m (xn c))) $$ Hvr
  iintro Hvr
  iapply (load16 c (off2 c j) f) $$ Hp
  iintro %x Hp
  iapply (store16 c (off2 c j) f (oF m c) _ (read_own m c j)) $$ Hp
  iintro Hp
  iapply Hk
  isplitl [HO HQ HK HV]
  · isplitr; · iexact HR
    isplitl [HO]; · iexact HO
    isplitl [HQ]; · iexact HQ
    isplitl [HK] <;> iassumption
  isplitl [Hd1 Hd2]; · isplitl [Hd1] <;> iassumption
  isplitl [Hkr Hvr]; · isplitl [Hkr] <;> iassumption
  iexact Hp

end Cert.KernelIdeal.Run
-- ==== Proof.KernelIdealRun.Exchange.lean ====
/- The blocks that exchange the heads, and the one that stores the result. -/
module

public import proofs.«01_k».proof.Proof.KernelIdealRun.Blocks

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Entering -/

/-- The tokens of the four signals a device sends. -/
def barTok (c : Dev nD) : sProp 𝕄 :=
  iprop(dutyTok ER (bar (xn c)) 0 (0 : Fin 4) ∗ bigSep Finset.univ fun o : Fin 3 => dutyTok ER (bar (on c o.succ)) 0 o.succ)
def enterIn (c : Dev nD) : sProp 𝕄 :=
  iprop((recs m ∗ Ow c (debts c)) ∗ (cred (tallyAt (bar c) () 4) ∗ atPos ER (bar c) 0 (∅ : Finset (Fin 4)) 0) ∗ barTok c
    ∗ landFree c ∗ bigSep Finset.univ fun o : Fin 3 => outFree c (rk c + o.succ))
def enterOut (c : Dev nD) : sProp 𝕄 :=
  iprop(Ow c (debtsSt c [0, 1, 2, 3]) ∗ semVal (bar c) 0 ∗ landFree (xn c) ∗ bigSep Finset.univ fun o : Fin 3 => outFree (on c o.succ) (rk c))

theorem barPay_xn (c : Dev nD) : barPay (F := F) (xn c) 0 = landFree c := by
  unfold barPay; rw [if_pos rfl, xn_xn]
theorem barPay_on (c : Dev nD) (o : Fin 3) : barPay (F := F) (on c o.succ) o.succ = outFree c (rk c + o.succ) := by
  unfold barPay; rw [if_neg (Fin.succ_ne_zero o), on_neg, rk_on]
theorem barPay_zero (c : Dev nD) : barPay (F := F) c 0 = landFree (xn c) := by
  unfold barPay; rw [if_pos rfl]
theorem barPay_succ (c : Dev nD) (o o' : Fin 4) (h : o ≠ 0) (e : -o = o') : barPay (F := F) c o = outFree (on c o') (rk c) := by
  unfold barPay; rw [if_neg h, e]

theorem enter_tri (c : Dev nD) : Tri c (enterIn m c) (enter c) (enterOut (F := F) c) := by
  intro k Q
  have e₁ := barPay_on (F := F) c 0
  have e₂ := barPay_on (F := F) c 1
  have e₃ := barPay_on (F := F) c 2
  unfold enter enterIn enterOut barTok
  rw [big_three, big_three, big_three]
  iintro ⟨⟨#HR, HO⟩, ⟨Hc, Ha⟩, ⟨Ht0, Ht1, Ht2, Ht3⟩, Hl, Ho1, Ho2, Ho3⟩ Hk
  iapply (step_signal m c _ (xn c) (dev1 c) 0 ((bar (on c 1), 1) :: (bar (on c 2), 1) :: (bar (on c 3), 1) :: debtsSt c [0, 1, 2, 3])) $$ [HO Ht0 Hl]
  · isplitr; · iexact HR
    isplitl [HO]; · iexact HO
    isplitl [Ht0]; · iexact Ht0
    rw [barPay_xn]; iexact Hl
  iintro HO
  iapply (step_signal m c _ (on c 1) (dev2 c) 1 ((bar (on c 2), 1) :: (bar (on c 3), 1) :: debtsSt c [0, 1, 2, 3])) $$ [HO Ht1 Ho1]
  · isplitr; · iexact HR
    isplitl [HO]; · iexact HO
    isplitl [Ht1]; · iexact Ht1
    iapply (Entails.of_eq e₁.symm); iexact Ho1
  iintro HO
  iapply (step_signal m c _ (on c 2) (dev3 c) 2 ((bar (on c 3), 1) :: debtsSt c [0, 1, 2, 3])) $$ [HO Ht2 Ho2]
  · isplitr; · iexact HR
    isplitl [HO]; · iexact HO
    isplitl [Ht2]; · iexact Ht2
    iapply (Entails.of_eq e₂.symm); iexact Ho2
  iintro HO
  iapply (step_signal m c _ (on c 3) (dev4 c) 3 (debtsSt c [0, 1, 2, 3])) $$ [HO Ht3 Ho3]
  · isplitr; · iexact HR
    isplitl [HO]; · iexact HO
    isplitl [Ht3]; · iexact Ht3
    iapply (Entails.of_eq e₃.symm); iexact Ho3
  iintro HO
  iapply (step_enter m c (debtsSt c [0, 1, 2, 3]) (above_debtsSt c _)) $$ [HO Hc Ha]
  · isplitr; · iexact HR
    isplitl [HO]; · iexact HO
    isplitl [Hc] <;> iassumption
  rw [big_four, barPay_zero, barPay_succ c 1 3 (by decide) (by decide), barPay_succ c 2 2 (by decide) (by decide), barPay_succ c 3 1 (by decide) (by decide)]
  iintro ⟨HO, Hz, Hl, Ho3, Ho2, Ho1⟩
  iapply Hk
  isplitl [HO]; · iexact HO
  isplitl [Hz]; · iexact Hz
  isplitl [Hl]; · iexact Hl
  isplitl [Ho1]; · iexact Ho1
  isplitl [Ho2]; · iexact Ho2
  iexact Ho3

/-! ## Sending a head -/

/-- What sending head `j` to the device `o + 1` ranks on needs besides the head. -/
def sendIn (c : Dev nD) (o : Fin 3) (j : Fin 4) : sProp 𝕄 :=
  iprop((∃ f, p16 (on c o.succ) (sl (rk c) j) fullShare f) ∗ tok c (aOx (rk c + o.succ)) j ∗ tok (on c o.succ) (aOr (rk c)) j)

theorem send_own (c : Dev nD) (o : Fin 3) (j : Fin 4) (l : Debts) {off : Fin 3 → Nat} {h : ∀ a, off a + S1x1024x128.size a ≤ S16x1024x128.size a}
    (e : off = ![(sl (rk c) j).val, 0, 0]) {n : Dev nD} (hn : n = on c o.succ) {sS sR : DmaSem sig} (hsS : sS = dsem (aOx (rk c + o.succ)) j)
    (hsR : sR = dsem (aOr (rk c)) j) {hsc : (slot16 off h).view.ref.isScScratch = false} {hsrc hdst : (slot16 off h).view.WordExact}
    {hsem : DmaTarget.Typed .vmem (.dma sR) (.remote (Dev.tc n : Thread nD τ) (slot16 off h) (.dma sS) hsc)} (k : Pr F) (Q : PUnit → sProp 𝕄) :
    iprop(recs m ∗ Ow c ((dc (on c o.succ) (aOr (rk c)) j, N) :: l) ∗ p16 c (sl (rk c) j) (sh o.succ) (oF m c) ∗ sendIn c o j)
      ⊢ iprop((iprop(Ow c l ∗ crd c (aOx (rk c + o.succ)) j) -∗ Wp c k Q)
          -∗ Wp c (.op (.enqueueDma (slot16 off h) (.remote (Dev.tc n : Thread nD τ) (slot16 off h) (.dma sS) hsc) (.dma sR) hsrc hdst hsem) fun _ => k) Q) := by
  subst e
  have h₁ : ((slot16 _ (inb16 (sl (rk c) j))).view.loc (c : Thread nD τ) ↦[(slot16 _ (inb16 (sl (rk c) j))).view.set]{sh o.succ} (oF m c) : sProp 𝕄)
      ⊢ dmaPay m c (aOx (rk c + o.succ)) j := by
    rw [dmaPay_ox]; exact Entails.of_eq (pt16 c _ _ _)
  have h₂ : ∀ fd : Buf (Elt F) (oB.view.loc (on c o.succ : Thread nD τ)),
      ((slot16 _ (inb16 (sl (rk c) j))).view.loc (on c o.succ : Thread nD τ) ↦[(slot16 _ (inb16 (sl (rk c) j))).view.set]{fullShare}
        ((slot16 _ (inb16 (sl (rk c) j))).view.write (Elt F) fd ((slot16 _ (inb16 (sl (rk c) j))).view.read (Elt F) (oF m c)) Finset.univ) : sProp 𝕄)
        ⊢ dmaPay m (on c o.succ) (aOr (rk c)) j := fun fd => by
    rw [dmaPay_or, oF_on]
    exact Entails.of_eq ((land (on c o.succ) (slot16 _ (inb16 (sl (rk c) j))) fd (oF m c) _ rfl).trans (pt16 (on c o.succ) _ _ _))
  unfold sendIn
  iintro ⟨#HR, HO, Hs, ⟨%fd, Hd⟩, Ht, Ht'⟩ Hk
  iapply (step_send m (src := slot16 _ (inb16 (sl (rk c) j))) (dst := slot16 _ (inb16 (sl (rk c) j))) c n (on c o.succ) hn (aOx (rk c + o.succ)) (aOr (rk c)) j
    (used_ox c o) (used_or_on c o) l hsS hsR rfl (oF m c) fd h₁ (h₂ fd)) $$ [HO Hs Hd Ht Ht']
  · isplitr; · iexact HR
    isplitl [HO]; · iexact HO
    isplitl [Hs]; · rw [pt16 c]; iexact Hs
    isplitl [Hd]; · rw [pt16 (on c o.succ)]; iexact Hd
    isplitl [Ht] <;> iassumption
  iexact Hk

theorem sendO_tri (c : Dev nD) (o : Fin 3) (j : Fin 4) (l : Debts) :
    Tri c iprop(recs m ∗ Ow c ((dc (on c o.succ) (aOr (rk c)) j, N) :: l) ∗ p16 c (sl (rk c) j) (sh o.succ) (oF m c) ∗ sendIn c o j)
      (sendO c j (oDev c j o) (osy c j o) (ory c j)) iprop(Ow c l ∗ crd c (aOx (rk c + o.succ)) j) := by
  intro k Q
  unfold sendO
  exact send_own m c o j l (off5 c j) (oDev_eq c j o) (osy_eq c j o) (ory_eq c j) k Q

/-- What computing and sending head `j` needs, and what it leaves. -/
def ringIn (c : Dev nD) (j : Fin 4) : sProp 𝕄 := iprop(headIn c j ∗ bigSep Finset.univ fun o : Fin 3 => sendIn c o j)
def ringOut (c : Dev nD) (j : Fin 4) : sProp 𝕄 :=
  iprop((done c aKr j ∗ done c aVr j) ∗ (p4 c kRe j (kF m (xn c)) ∗ p4 c vRe j (vF m (xn c))) ∗ p16 c (sl (rk c) j) fullShare.left (oF m c)
    ∗ bigSep Finset.univ fun o : Fin 3 => crd c (aOx (rk c + o.succ)) j)

/-- What the rings and what follows know: the records, the debts left, and the three staged blocks. -/
def ringKnow (c : Dev nD) (l : List (Fin 4)) : sProp 𝕄 :=
  iprop(recs m ∗ Ow c (debtsO c l) ∗ blkAt c qM (qB m c) ∗ blkAt c kM (kB m c) ∗ blkAt c vM (vB m c))

theorem ringBlk_tri (c : Dev nD) (j : Fin 4) (l : List (Fin 4)) :
    Tri c iprop(ringKnow m c (j :: l) ∗ ringIn c j) (ringBlk c j) iprop(ringKnow m c l ∗ ringOut m c j) := by
  intro k Q
  unfold ringBlk ringKnow ringIn ringOut
  rw [big_three, big_three]
  iintro ⟨HA, Hh, Hs⟩ Hk
  iapply (headBlk_tri m c j (debtsO c (j :: l)) (above_debtsO c _) _ Q) $$ [HA Hh]
  · isplitl [HA] <;> iassumption
  unfold headOut
  iintro ⟨⟨#HR, HO, HB⟩, Hd, Hr, Hp⟩
  ihave Hp := (p16_lend c (sl (rk c) j) (oF m c)).1 $$ Hp
  icases Hp with ⟨Hl, Hp⟩
  ihave Hp := ((p16_parts c (sl (rk c) j) (oF m c)).1.trans (Entails.of_eq (big_three _))) $$ Hp
  icases Hp with ⟨Hp0, Hp1, Hp2⟩
  icases Hs with ⟨Hs0, Hs1, Hs2⟩
  iapply (sendO_tri m c 0 j ((dc (on c 2) (aOr (rk c)) j, N) :: (dc (on c 3) (aOr (rk c)) j, N) :: debtsO c l) _ Q) $$ [HO Hp0 Hs0]
  · isplitr; · iexact HR
    isplitl [HO]; · iexact HO
    isplitl [Hp0] <;> iassumption
  iintro ⟨HO, Hc0⟩
  iapply (sendO_tri m c 1 j ((dc (on c 3) (aOr (rk c)) j, N) :: debtsO c l) _ Q) $$ [HO Hp1 Hs1]
  · isplitr; · iexact HR
    isplitl [HO]; · iexact HO
    isplitl [Hp1] <;> iassumption
  iintro ⟨HO, Hc1⟩
  iapply (sendO_tri m c 2 j (debtsO c l) _ Q) $$ [HO Hp2 Hs2]
  · isplitr; · iexact HR
    isplitl [HO]; · iexact HO
    isplitl [Hp2] <;> iassumption
  iintro ⟨HO, Hc2⟩
  iapply Hk
  isplitl [HO HB]
  · isplitr; · iexact HR
    isplitl [HO] <;> iassumption
  isplitl [Hd]; · iexact Hd
  isplitl [Hr]; · iexact Hr
  isplitl [Hl]; · iexact Hl
  isplitl [Hc0]; · iexact Hc0
  isplitl [Hc1] <;> iassumption

/-! ## Receiving -/

/-- A wait for a transfer between output slots. -/
theorem wait16 (c : Dev nD) (a : Fin 12) (j : Fin 4) (hu : used c a) (l : Debts) {v : ℕ} (hv : lvS (.dma (dsem a j)) = v) (hl : above v l)
    {off : Fin 3 → Nat} {h : ∀ x, off x + S1x1024x128.size x ≤ S16x1024x128.size x} {s : DmaSem sig} (hs : s = dsem a j)
    {hsrc hdst : (slot16 off h).view.WordExact} :
    Tri c iprop(recs m ∗ Ow c l ∗ crd c a j ∗ pos c a j) (fun k => .op (.waitDma2 s (slot16 off h) (slot16 off h) hsrc hdst) fun _ => k)
      iprop(Ow c l ∗ done c a j ∗ dmaPay m c a j) := by
  intro k Q
  exact step_wait m c a j hu l hv hl hs (src := slot16 off h) (dst := slot16 off h) rfl (k := fun _ => k)

def recvIn (c : Dev nD) (p : Fin 3 × Fin 4) : sProp 𝕄 := iprop(crd c (aOr (rk c + p.1.succ)) p.2 ∗ pos c (aOr (rk c + p.1.succ)) p.2)
def recvOut (c : Dev nD) (p : Fin 3 × Fin 4) : sProp 𝕄 :=
  iprop(done c (aOr (rk c + p.1.succ)) p.2 ∗ p16 c (sl (rk c + p.1.succ) p.2) fullShare.left (oF m c) ∗ p16 c (sl (rk c + p.1.succ) p.2) fullShare.right (oF m c))

theorem recvO_tri (c : Dev nD) (i : Fin 12) :
    Tri c iprop((recs m ∗ Ow c []) ∗ recvIn c (recvE c i)) (recvO c i) iprop((recs m ∗ Ow c []) ∗ recvOut m c (recvE c i)) := by
  intro k Q
  unfold recvO recvIn recvOut
  iintro ⟨⟨#HR, HO⟩, Hc, Ha⟩ Hk
  iapply (wait16 m c (aOr (rk c + (ro c i).succ)) (rj i) (used_or c (ro c i)) [] (lvS_or _ _) (above_nil _) (rsem_eq c i) k Q) $$ [HO Hc Ha]
  · isplitr; · iexact HR
    isplitl [HO]; · iexact HO
    isplitl [Hc]; · iexact Hc
    iexact Ha
  iintro ⟨HO, Hd, Hp⟩
  ihave Hp := (Entails.of_eq (dmaPay_or m c (rk c + (ro c i).succ) (rj i))) $$ Hp
  ihave Hp := (p16_lend c (sl (rk c + (ro c i).succ) (rj i)) (oF m c)).1 $$ Hp
  iapply Hk
  isplitl [HO]
  · isplitr; · iexact HR
    iexact HO
  isplitl [Hd]; · iexact Hd
  iexact Hp

/-! ## The result -/

theorem zero3 : (![0, 0, 0] : Fin 3 → Nat) = fun _ => 0 := by decide
theorem zero4 : (![0, 0, 0, 0] : Fin 4 → Nat) = fun _ => 0 := by decide

/-- The output buffer is read, turned and stored. -/
theorem outBlk_tri (c : Dev nD) (q : PosShare TreeShare) :
    Tri c iprop((oB.view.loc (c : Thread nD τ) ↦{q} (oF m c)) ∗ ∃ f, blkAt c oM f) outBlk
      iprop((oB.view.loc (c : Thread nD τ) ↦{q} (oF m c)) ∗ blkAt c oM (outV m c)) := by
  intro k Q
  unfold outBlk
  iintro ⟨Hb, ⟨%f, Ho⟩⟩ Hk
  iapply (wp_load 𝒱₀ (Dev.tc c : Thread nD τ) none Set.univ (m := oB) (Finset.subset_univ _)) $$ Hb
  iintro Hb
  rw [show oB.view.readAt (Elt F) (Rect.unit (s := S16x1024x128) ![0, 0, 0] S16x1024x128.size inb_S16x1024x128_S16x1024x128_0_0_0).toLoadRect (oF m c) = oF m c
    from Memref.readAt_unit_zero (Elt F) cc0_scratch4 zero3 _ _]
  iapply (wp_load 𝒱₀ (Dev.tc c : Thread nD τ) none Set.univ (m := oM) (Finset.subset_univ _)) $$ Ho
  iintro Ho
  iapply (wp_store 𝒱₀ (Dev.tc c : Thread nD τ) none Set.univ (m := oM) (r := Rect.unit (s := S1x1024x16x128) ![0, 0, 0, 0] S1x1024x16x128.size inb_S1x1024x16x128_S1x1024x16x128_0_0_0_0)
    (Mk := Finset.univ) (f := f) (S := Finset.univ) (Finset.subset_univ _)) $$ Ho
  iintro Ho
  iapply Hk
  isplitl [Hb]; · iexact Hb
  ihave Ho := (Entails.of_eq (congrArg (fun g => (oM.view.loc (c : Thread nD τ) ↦{fullShare} g : sProp 𝕄))
    (Memref.write_access_unit_zero_univ (Elt F) cc0_stg3_0 zero4 inb_S1x1024x16x128_S1x1024x16x128_0_0_0_0 f (k0_pay46 (oF m c))))) $$ Ho
  iexact Ho

/-! ## Waiting for the sends -/

def drainIn (c : Dev nD) (j : Fin 4) : sProp 𝕄 :=
  iprop((crd c aKx j ∗ pos c aKx j) ∗ (crd c aVx j ∗ pos c aVx j)
    ∗ bigSep Finset.univ fun o : Fin 3 => iprop(crd c (aOx (rk c + o.succ)) j ∗ pos c (aOx (rk c + o.succ)) j))
def drainOut (c : Dev nD) (j : Fin 4) : sProp 𝕄 :=
  iprop((done c aKx j ∗ p4 c kSt j (kF m c)) ∗ (done c aVx j ∗ p4 c vSt j (vF m c)) ∗ p16 c (sl (rk c) j) fullShare.right (oF m c)
    ∗ bigSep Finset.univ fun o : Fin 3 => done c (aOx (rk c + o.succ)) j)

theorem waitO_tri (c : Dev nD) (o : Fin 3) (j : Fin 4) :
    Tri c iprop(recs m ∗ Ow c [] ∗ crd c (aOx (rk c + o.succ)) j ∗ pos c (aOx (rk c + o.succ)) j) (waitO c j (osy c j o))
      iprop(Ow c [] ∗ done c (aOx (rk c + o.succ)) j ∗ p16 c (sl (rk c) j) (sh o.succ) (oF m c)) := by
  intro k Q
  unfold waitO
  rw [← dmaPay_ox]
  exact wait16 m c (aOx (rk c + o.succ)) j (used_ox c o) [] rfl (above_nil _) (osy_eq c j o) k Q

theorem drainBlk_tri (c : Dev nD) (j : Fin 4) :
    Tri c iprop((recs m ∗ Ow c []) ∗ drainIn c j) (drainBlk c j) iprop((recs m ∗ Ow c []) ∗ drainOut m c j) := by
  intro k Q
  unfold drainBlk drainIn drainOut
  rw [big_three, big_three]
  iintro ⟨⟨#HR, HO⟩, ⟨Hc1, Ha1⟩, ⟨Hc2, Ha2⟩, ⟨Hc3, Ha3⟩, ⟨Hc4, Ha4⟩, ⟨Hc5, Ha5⟩⟩ Hk
  iapply (wait4_tri m c aKx j (used_kx c) [] rfl (above_nil _) (sem5 j) kRe kSt kRe_whole kSt_whole rfl _ Q) $$ [HO Hc1 Ha1]
  · isplitr; · iexact HR
    isplitl [HO]; · iexact HO
    isplitl [Hc1] <;> iassumption
  iintro ⟨HO, Hd1, Hk1⟩
  iapply (wait4_tri m c aVx j (used_vx c) [] rfl (above_nil _) (sem7 j) vRe vSt vRe_whole vSt_whole rfl _ Q) $$ [HO Hc2 Ha2]
  · isplitr; · iexact HR
    isplitl [HO]; · iexact HO
    isplitl [Hc2] <;> iassumption
  iintro ⟨HO, Hd2, Hv1⟩
  iapply (waitO_tri m c 0 j _ Q) $$ [HO Hc3 Ha3]
  · isplitr; · iexact HR
    isplitl [HO]; · iexact HO
    isplitl [Hc3] <;> iassumption
  iintro ⟨HO, Hd3, Hp0⟩
  iapply (waitO_tri m c 1 j _ Q) $$ [HO Hc4 Ha4]
  · isplitr; · iexact HR
    isplitl [HO]; · iexact HO
    isplitl [Hc4] <;> iassumption
  iintro ⟨HO, Hd4, Hp1⟩
  iapply (waitO_tri m c 2 j _ Q) $$ [HO Hc5 Ha5]
  · isplitr; · iexact HR
    isplitl [HO]; · iexact HO
    isplitl [Hc5] <;> iassumption
  iintro ⟨HO, Hd5, Hp2⟩
  iapply Hk
  isplitl [HO]
  · isplitr; · iexact HR
    iexact HO
  isplitl [Hd1 Hk1]
  · isplitl [Hd1]; · iexact Hd1
    iapply (Entails.of_eq (dmaPay_kx m c j)); iexact Hk1
  isplitl [Hd2 Hv1]
  · isplitl [Hd2]; · iexact Hd2
    iapply (Entails.of_eq (dmaPay_vx m c j)); iexact Hv1
  isplitl [Hp0 Hp1 Hp2]
  · iapply (p16_parts c (sl (rk c) j) (oF m c)).2
    rw [big_three]
    isplitl [Hp0]; · iexact Hp0
    isplitl [Hp1] <;> iassumption
  isplitl [Hd3]; · iexact Hd3
  isplitl [Hd4] <;> iassumption

end Cert.KernelIdeal.Run
-- ==== Proof.KernelIdealRun.Deal.lean ====
/- The whole function, run by an arbitrary device: the blocks in order, with the families of slots, tokens and
   credits dealt to the heads and gathered again. -/
module

public import proofs.«01_k».proof.Proof.KernelIdealRun.Exchange

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

theorem rk_zero (c : Dev nD) : rk c + 0 = rk c := by revert c; decide
/-- The ranks, counted from a device's own. -/
def rkE (c : Dev nD) : Fin 4 ≃ Fin 4 :=
  ⟨fun o => rk c + o, fun p => p - rk c, (by decide : ∀ r o : Fin 4, r + o - r = o) _, (by decide : ∀ r o : Fin 4, r + (o - r) = o) _⟩

/-! ## Buffers -/

/-- A whole buffer, whatever it holds. -/
def buf4 (c : Dev nD) (b : Memref sig .tc .vmem S4x1024x128 .bf16) : sProp 𝕄 := iprop(∃ f, b.view.loc (c : Thread nD τ) ↦{fullShare} f)
def buf16 (c : Dev nD) : sProp 𝕄 := iprop(∃ f, oB.view.loc (c : Thread nD τ) ↦{fullShare} f)
/-- Its slots, whatever they hold. -/
abbrev slots4 (c : Dev nD) (b : Memref sig .tc .vmem S4x1024x128 .bf16) : sProp 𝕄 := bigSep Finset.univ fun j : Fin 4 => iprop(∃ f, p4 c b j f)

theorem buf4_slots (c : Dev nD) (b : Memref sig .tc .vmem S4x1024x128 .bf16) (hb : b.view.set = Finset.univ) : (buf4 c b : sProp 𝕄) ⊢ slots4 c b := by
  unfold buf4
  iintro ⟨%f, H⟩
  iapply ((Entails.of_eq (split4 c b hb f)).trans (bigSep_mono fun j _ => exists_intro (Φ := fun f => p4 c b j f) f))
  iexact H
theorem slots4_buf (c : Dev nD) (b : Memref sig .tc .vmem S4x1024x128 .bf16) (hb : b.view.set = Finset.univ) (f : Buf (Elt F) (b.view.loc (c : Thread nD τ))) :
    (bigSep Finset.univ fun j : Fin 4 => p4 c b j f) ⊢ (buf4 c b : sProp 𝕄) := by
  unfold buf4
  exact (Entails.of_eq (split4 c b hb f).symm).trans (exists_intro (Φ := fun f => (b.view.loc (c : Thread nD τ) ↦{fullShare} f : sProp 𝕄)) f)

/-- The output buffer's slots: a device's own, and those of the three others of its group. -/
theorem buf16_slots (c : Dev nD) : (buf16 c : sProp 𝕄)
    ⊢ iprop((bigSep Finset.univ fun j : Fin 4 => iprop(∃ f, p16 c (sl (rk c) j) fullShare f)) ∗ bigSep Finset.univ fun o : Fin 3 => outFree c (rk c + o.succ)) := by
  unfold buf16 outFree
  iintro ⟨%f, H⟩
  have h := split16' (F := F) c fullShare f
  rw [big_succ, rk_zero] at h
  iapply ((Entails.of_eq h).trans (BIClass.sep_mono (bigSep_mono fun j _ => exists_intro (Φ := fun f => p16 c (sl (rk c) j) fullShare f) f)
    (bigSep_mono fun o _ => bigSep_mono fun j _ => exists_intro (Φ := fun f => p16 c (sl (rk c + o.succ) j) fullShare f) f)))
  iexact H

/-- A share of every slot, own and received, is that share of the buffer. -/
theorem join16 (c : Dev nD) (q : PosShare TreeShare) (f : Buf (Elt F) (oB.view.loc (c : Thread nD τ))) :
    iprop((bigSep Finset.univ fun j : Fin 4 => p16 c (sl (rk c) j) q f) ∗ bigSep Finset.univ fun p : Fin 3 × Fin 4 => p16 c (sl (rk c + p.1.succ) p.2) q f)
      = (oB.view.loc (c : Thread nD τ) ↦{q} f : sProp 𝕄) := by
  have h := split16' (F := F) c q f
  rw [big_succ, rk_zero] at h
  rw [bigSep_univ_prod]
  exact h.symm

/-! ## Rows of semaphores -/

/-- A family over the rows: the four of the keys and values, the sends' and the receives', each with the idle one apart. -/
theorem rows (c : Dev nD) (P : Fin 12 → sProp 𝕄) : bigSep Finset.univ P
    = iprop(P aKx ∗ P aKr ∗ P aVx ∗ P aVr ∗ (P (aOx (rk c)) ∗ bigSep Finset.univ fun o : Fin 3 => P (aOx (rk c + o.succ)))
        ∗ (P (aOr (rk c)) ∗ bigSep Finset.univ fun o : Fin 3 => P (aOr (rk c + o.succ)))) := by
  have e : ∀ g : Fin 4 → sProp 𝕄, iprop(g (rk c) ∗ bigSep Finset.univ fun o : Fin 3 => g (rk c + o.succ)) = bigSep Finset.univ g := fun g => by
    rw [bigSep_univ_equiv (rkE c) g]
    refine Eq.trans ?_ (big_succ _).symm
    show _ = iprop(g (rk c + 0) ∗ bigSep Finset.univ fun o : Fin 3 => g (rk c + o.succ))
    rw [rk_zero]
  rw [e fun p => P (aOx p), e fun p => P (aOr p), big_four, big_four, ← each_twelve]
  have h₁ : (iprop(P 0 ∗ P 1 ∗ P 2 ∗ P 3 ∗ P 4 ∗ P 5 ∗ P 6 ∗ P 7 ∗ P 8 ∗ P 9 ∗ P 10 ∗ P 11 ∗ emp) : sProp 𝕄)
      ⊢ iprop(P 0 ∗ P 1 ∗ P 2 ∗ P 3 ∗ (P 4 ∗ P 5 ∗ P 6 ∗ P 7) ∗ P 8 ∗ P 9 ∗ P 10 ∗ P 11) := by
    iintro ⟨H0, H1, H2, H3, H4, H5, H6, H7, H8, H9, H10, H11, -⟩
    isplitl [H0]; · iexact H0
    isplitl [H1]; · iexact H1
    isplitl [H2]; · iexact H2
    isplitl [H3]; · iexact H3
    isplitl [H4 H5 H6 H7]
    · isplitl [H4]; · iexact H4
      isplitl [H5]; · iexact H5
      isplitl [H6]; · iexact H6
      iexact H7
    isplitl [H8]; · iexact H8
    isplitl [H9]; · iexact H9
    isplitl [H10]; · iexact H10
    iexact H11
  have h₂ : (iprop(P 0 ∗ P 1 ∗ P 2 ∗ P 3 ∗ (P 4 ∗ P 5 ∗ P 6 ∗ P 7) ∗ P 8 ∗ P 9 ∗ P 10 ∗ P 11) : sProp 𝕄)
      ⊢ iprop(P 0 ∗ P 1 ∗ P 2 ∗ P 3 ∗ P 4 ∗ P 5 ∗ P 6 ∗ P 7 ∗ P 8 ∗ P 9 ∗ P 10 ∗ P 11 ∗ emp) := by
    iintro ⟨H0, H1, H2, H3, ⟨H4, H5, H6, H7⟩, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iempintro
  exact Idealize.SL.BI.Entails.antisymm h₁ h₂

/-! ## What a device starts with -/

/-- The credits launched with a device: its four signals', and one for every transfer it receives. -/
def crdIn (c : Dev nD) : sProp 𝕄 :=
  iprop(cred (tallyAt (bar c) () 4) ∗ (bigSep Finset.univ fun j : Fin 4 => crd c aKr j) ∗ (bigSep Finset.univ fun j : Fin 4 => crd c aVr j)
    ∗ bigSep Finset.univ fun p : Fin 3 × Fin 4 => crd c (aOr (rk c + p.1.succ)) p.2)
/-- Its places before its semaphores' rounds. -/
def posIn (c : Dev nD) : sProp 𝕄 :=
  iprop(atPos ER (bar c) 0 (∅ : Finset (Fin 4)) 0 ∗ bigSep Finset.univ fun a : Fin 12 => bigSep Finset.univ fun j : Fin 4 => pos c a j)
/-- The tokens of everything it pays. -/
def tokIn (c : Dev nD) : sProp 𝕄 :=
  iprop(barTok c ∗ (bigSep Finset.univ fun j : Fin 4 => tok c aKx j) ∗ (bigSep Finset.univ fun j : Fin 4 => tok (xn c) aKr j)
    ∗ (bigSep Finset.univ fun j : Fin 4 => tok c aVx j) ∗ (bigSep Finset.univ fun j : Fin 4 => tok (xn c) aVr j)
    ∗ (bigSep Finset.univ fun o : Fin 3 => bigSep Finset.univ fun j : Fin 4 => tok c (aOx (rk c + o.succ)) j)
    ∗ bigSep Finset.univ fun o : Fin 3 => bigSep Finset.univ fun j : Fin 4 => tok (on c o.succ) (aOr (rk c)) j)
/-- Its five scratch buffers. -/
def bufs (c : Dev nD) : sProp 𝕄 := iprop(buf4 c kSt ∗ buf4 c vSt ∗ buf4 c kRe ∗ buf4 c vRe ∗ buf16 c)
/-- Its staged inputs. -/
def inputs (c : Dev nD) : sProp 𝕄 := iprop(blkAt c qM (qB m c) ∗ blkAt c kM (kB m c) ∗ blkAt c vM (vB m c))
/-- Its semaphores at zero. -/
def semsOut (c : Dev nD) : sProp 𝕄 :=
  iprop(semVal (bar c) 0 ∗ bigSep Finset.univ fun a : Fin 12 => bigSep Finset.univ fun j : Fin 4 => done c a j)

def bodyIn (c : Dev nD) : sProp 𝕄 :=
  iprop((recs m ∗ Ow c (debts c)) ∗ (crdIn c ∗ posIn c ∗ tokIn c) ∗ bufs c ∗ inputs m c ∗ ∃ f, blkAt c oM f)
def bodyOut (c : Dev nD) : sProp 𝕄 := iprop(Ow c [] ∗ semsOut c ∗ bufs c ∗ inputs m c ∗ blkAt c oM (outV m c))

/-! ## Dealing to the heads, and gathering -/

theorem stage_deal (c : Dev nD) :
    iprop(slots4 c kSt ∗ slots4 c vSt ∗ landFree (xn c)
        ∗ ((bigSep Finset.univ fun j : Fin 4 => tok c aKx j) ∗ bigSep Finset.univ fun j : Fin 4 => tok (xn c) aKr j)
        ∗ (bigSep Finset.univ fun j : Fin 4 => tok c aVx j) ∗ bigSep Finset.univ fun j : Fin 4 => tok (xn c) aVr j)
      ⊢ (each (stageIn c) [0, 1, 2, 3] : sProp 𝕄) := by
  rw [each_four]
  unfold stageIn landFree
  simp only [bigSep_sep']
  iintro ⟨H1, H2, ⟨H3, H4⟩, H5, H6⟩
  isplitl [H1]; · iexact H1
  isplitl [H2]; · iexact H2
  isplitl [H3]; · iexact H3
  isplitl [H4]; · iexact H4
  isplitl [H5]; · iexact H5
  iexact H6

theorem ring_deal (c : Dev nD) :
    iprop(((bigSep Finset.univ fun j : Fin 4 => crd c aKr j) ∗ bigSep Finset.univ fun j : Fin 4 => pos c aKr j)
        ∗ ((bigSep Finset.univ fun j : Fin 4 => crd c aVr j) ∗ bigSep Finset.univ fun j : Fin 4 => pos c aVr j)
        ∗ (bigSep Finset.univ fun j : Fin 4 => iprop(∃ f, p16 c (sl (rk c) j) fullShare f))
        ∗ (bigSep Finset.univ fun o : Fin 3 => outFree (on c o.succ) (rk c))
        ∗ (bigSep Finset.univ fun o : Fin 3 => bigSep Finset.univ fun j : Fin 4 => tok c (aOx (rk c + o.succ)) j)
        ∗ bigSep Finset.univ fun o : Fin 3 => bigSep Finset.univ fun j : Fin 4 => tok (on c o.succ) (aOr (rk c)) j)
      ⊢ (each (ringIn c) [0, 1, 2, 3] : sProp 𝕄) := by
  rw [each_four]
  unfold ringIn headIn sendIn outFree
  simp only [bigSep_sep']
  rw [bigSep_univ_comm fun (o : Fin 3) (j : Fin 4) => iprop(∃ f, p16 (on c o.succ) (sl (rk c) j) fullShare f),
    bigSep_univ_comm fun (o : Fin 3) (j : Fin 4) => tok c (aOx (rk c + o.succ)) j,
    bigSep_univ_comm fun (o : Fin 3) (j : Fin 4) => tok (on c o.succ) (aOr (rk c)) j]
  iintro ⟨H1, H2, H3, H4, H5, H6⟩
  isplitl [H1 H2 H3]
  · isplitl [H1]; · iexact H1
    isplitl [H2]; · iexact H2
    iexact H3
  isplitl [H4]; · iexact H4
  isplitl [H5]; · iexact H5
  iexact H6

theorem ring_gather (c : Dev nD) :
    (each (ringOut m c) [0, 1, 2, 3] : sProp 𝕄)
      ⊢ iprop(((bigSep Finset.univ fun j : Fin 4 => done c aKr j) ∗ bigSep Finset.univ fun j : Fin 4 => done c aVr j)
        ∗ (buf4 c kRe ∗ buf4 c vRe) ∗ (bigSep Finset.univ fun j : Fin 4 => p16 c (sl (rk c) j) fullShare.left (oF m c))
        ∗ bigSep Finset.univ fun o : Fin 3 => bigSep Finset.univ fun j : Fin 4 => crd c (aOx (rk c + o.succ)) j) := by
  rw [each_four]
  unfold ringOut
  simp only [bigSep_sep']
  rw [bigSep_univ_comm fun (o : Fin 3) (j : Fin 4) => crd c (aOx (rk c + o.succ)) j]
  iintro ⟨H1, ⟨H2, H3⟩, H4, H5⟩
  isplitl [H1]; · iexact H1
  isplitl [H2 H3]
  · isplitl [H2]
    · iapply (slots4_buf c kRe (View.set_whole _) (kF m (xn c))); iexact H2
    · iapply (slots4_buf c vRe (View.set_whole _) (vF m (xn c))); iexact H3
  isplitl [H4]; · iexact H4
  iexact H5

theorem recv_deal (c : Dev nD) :
    iprop((bigSep Finset.univ fun p : Fin 3 × Fin 4 => crd c (aOr (rk c + p.1.succ)) p.2)
        ∗ bigSep Finset.univ fun o : Fin 3 => bigSep Finset.univ fun j : Fin 4 => pos c (aOr (rk c + o.succ)) j)
      ⊢ (each (fun i => recvIn c (recvE c i)) [0, 1, 2, 3, 4, 5, 6, 7, 8, 9, 10, 11] : sProp 𝕄) := by
  rw [each_twelve, ← bigSep_univ_equiv (recvE c) (recvIn (F := F) c)]
  unfold recvIn
  rw [bigSep_sep', bigSep_univ_prod fun p : Fin 3 × Fin 4 => pos (F := F) c (aOr (rk c + p.1.succ)) p.2]

theorem recv_gather (c : Dev nD) :
    (each (fun i => recvOut m c (recvE c i)) [0, 1, 2, 3, 4, 5, 6, 7, 8, 9, 10, 11] : sProp 𝕄)
      ⊢ iprop((bigSep Finset.univ fun o : Fin 3 => bigSep Finset.univ fun j : Fin 4 => done c (aOr (rk c + o.succ)) j)
          ∗ (bigSep Finset.univ fun p : Fin 3 × Fin 4 => p16 c (sl (rk c + p.1.succ) p.2) fullShare.left (oF m c))
          ∗ bigSep Finset.univ fun p : Fin 3 × Fin 4 => p16 c (sl (rk c + p.1.succ) p.2) fullShare.right (oF m c)) := by
  rw [each_twelve, ← bigSep_univ_equiv (recvE c) (recvOut m c)]
  unfold recvOut
  rw [bigSep_sep', bigSep_sep', bigSep_univ_prod fun p : Fin 3 × Fin 4 => done (F := F) c (aOr (rk c + p.1.succ)) p.2]

theorem drain_deal (c : Dev nD) :
    iprop(each (stageOut c) [0, 1, 2, 3] ∗ (bigSep Finset.univ fun j : Fin 4 => pos c aKx j) ∗ (bigSep Finset.univ fun j : Fin 4 => pos c aVx j)
        ∗ (bigSep Finset.univ fun o : Fin 3 => bigSep Finset.univ fun j : Fin 4 => crd c (aOx (rk c + o.succ)) j)
        ∗ bigSep Finset.univ fun o : Fin 3 => bigSep Finset.univ fun j : Fin 4 => pos c (aOx (rk c + o.succ)) j)
      ⊢ (each (drainIn c) [0, 1, 2, 3] : sProp 𝕄) := by
  rw [each_four, each_four]
  unfold drainIn stageOut
  simp only [bigSep_sep']
  rw [bigSep_univ_comm fun (o : Fin 3) (j : Fin 4) => crd c (aOx (rk c + o.succ)) j,
    bigSep_univ_comm fun (o : Fin 3) (j : Fin 4) => pos c (aOx (rk c + o.succ)) j]
  iintro ⟨⟨H1, H2⟩, H3, H4, H5, H6⟩
  isplitl [H1 H3]; · isplitl [H1]; · iexact H1
                     iexact H3
  isplitl [H2 H4]; · isplitl [H2]; · iexact H2
                     iexact H4
  isplitl [H5]; · iexact H5
  iexact H6

theorem drain_gather (c : Dev nD) :
    (each (drainOut m c) [0, 1, 2, 3] : sProp 𝕄)
      ⊢ iprop((bigSep Finset.univ fun j : Fin 4 => done c aKx j) ∗ (bigSep Finset.univ fun j : Fin 4 => done c aVx j)
          ∗ (buf4 c kSt ∗ buf4 c vSt) ∗ (bigSep Finset.univ fun j : Fin 4 => p16 c (sl (rk c) j) fullShare.right (oF m c))
          ∗ bigSep Finset.univ fun o : Fin 3 => bigSep Finset.univ fun j : Fin 4 => done c (aOx (rk c + o.succ)) j) := by
  rw [each_four]
  unfold drainOut
  simp only [bigSep_sep']
  rw [bigSep_univ_comm fun (o : Fin 3) (j : Fin 4) => done c (aOx (rk c + o.succ)) j]
  iintro ⟨⟨H1, H2⟩, ⟨H3, H4⟩, H5, H6⟩
  isplitl [H1]; · iexact H1
  isplitl [H3]; · iexact H3
  isplitl [H2 H4]
  · isplitl [H2]
    · iapply (slots4_buf c kSt (View.set_whole _) (kF m c)); iexact H2
    · iapply (slots4_buf c vSt (View.set_whole _) (vF m c)); iexact H4
  isplitl [H5]; · iexact H5
  iexact H6

/-- The four semaphores nobody uses of one row are at zero. -/
theorem close_row (c : Dev nD) (a : Fin 12) (hu : ¬ used c a) :
    iprop(recs m ∗ bigSep Finset.univ fun j : Fin 4 => pos c a j) ⊢ (iprop(|={Set.univ}=> bigSep Finset.univ fun j : Fin 4 => done c a j) : sProp 𝕄) :=
  (bigSep_with_persistent fun j _ => close_idle m c a j hu).trans (bigSep_fupd _ _)

/-! ## The function -/

theorem prog_spec (c : Dev nD) (Q : PUnit → sProp 𝕄) :
    bodyIn m c ⊢ iprop((bodyOut m c -∗ Q ⟨⟩) -∗ Wp c (prog c) Q) := by
  have hrows := rows (F := F) c fun a => bigSep Finset.univ fun j : Fin 4 => pos c a j
  have hrowsOut := rows (F := F) c fun a => bigSep Finset.univ fun j : Fin 4 => done c a j
  unfold prog bodyIn bodyOut crdIn posIn tokIn bufs inputs semsOut
  rw [hrows, hrowsOut]
  iintro ⟨⟨#HR, HO⟩, ⟨⟨Hcb, Hckr, Hcvr, Hcor⟩, ⟨Hab, Hakx, Hakr, Havx, Havr, ⟨Haoz, Hao⟩, Haiz, Hai⟩, ⟨Htb, Htkx, Htkr, Htvx, Htvr, Htox, Htor⟩⟩,
    ⟨Hks, Hvs, Hkr, Hvr, Hob⟩, ⟨HQ, HK, HV⟩, Hout⟩ Hk
  ihave Hks := (buf4_slots c kSt (View.set_whole _)) $$ Hks
  ihave Hvs := (buf4_slots c vSt (View.set_whole _)) $$ Hvs
  ihave Hkr := (buf4_slots c kRe (View.set_whole _)) $$ Hkr
  ihave Hvr := (buf4_slots c vRe (View.set_whole _)) $$ Hvr
  ihave Hob := (buf16_slots c) $$ Hob
  icases Hob with ⟨Hown, Hoth⟩
  -- the signals, and the slots of the others
  iapply (enter_tri m c _ Q) $$ [HO Hcb Hab Htb Hkr Hvr Hoth]
  · unfold enterIn landFree
    isplitl [HO]
    · isplitr; · iexact HR
      iexact HO
    isplitl [Hcb Hab]
    · isplitl [Hcb]; · iexact Hcb
      iexact Hab
    isplitl [Htb]; · iexact Htb
    isplitl [Hkr Hvr]
    · isplitl [Hkr]; · iexact Hkr
      iexact Hvr
    iexact Hoth
  unfold enterOut
  iintro ⟨HO, Hzb, Hland, Hoth⟩
  -- staging
  ihave Hst := (stage_deal c) $$ [Hks Hvs Hland Htkx Htkr Htvx Htvr]
  · isplitl [Hks]; · iexact Hks
    isplitl [Hvs]; · iexact Hvs
    isplitl [Hland]; · iexact Hland
    isplitl [Htkx Htkr]
    · isplitl [Htkx]; · iexact Htkx
      iexact Htkr
    isplitl [Htvx]; · iexact Htvx
    iexact Htvr
  iapply (Tri.forEach (fun l => iprop(recs m ∗ Ow c (debtsSt c l) ∗ blkAt c kM (kB m c) ∗ blkAt c vM (vB m c))) (stageIn c) (stageOut c)
    (fun j => stageBlk c j (kDev c j) (vDev c j)) (fun j l => stageBlk_tri m c j l) [0, 1, 2, 3] _ Q) $$ [HO HK HV Hst]
  · isplitl [HO HK HV]
    · isplitr; · iexact HR
      isplitl [HO]; · iexact HO
      isplitl [HK]; · iexact HK
      iexact HV
    iexact Hst
  iintro ⟨⟨-, HO, HK, HV⟩, Hcs⟩
  -- the heads
  ihave Hri := (ring_deal c) $$ [Hckr Hakr Hcvr Havr Hown Hoth Htox Htor]
  · isplitl [Hckr Hakr]
    · isplitl [Hckr]; · iexact Hckr
      iexact Hakr
    isplitl [Hcvr Havr]
    · isplitl [Hcvr]; · iexact Hcvr
      iexact Havr
    isplitl [Hown]; · iexact Hown
    isplitl [Hoth]; · iexact Hoth
    isplitl [Htox]; · iexact Htox
    iexact Htor
  iapply (Tri.forEach (ringKnow m c) (ringIn c) (ringOut m c) (ringBlk c) (fun j l => ringBlk_tri m c j l) [0, 1, 2, 3] _ Q) $$ [HO HQ HK HV Hri]
  · unfold ringKnow
    isplitl [HO HQ HK HV]
    · isplitr; · iexact HR
      isplitl [HO]; · iexact HO
      isplitl [HQ]; · iexact HQ
      isplitl [HK]; · iexact HK
      iexact HV
    iexact Hri
  unfold ringKnow
  iintro ⟨⟨-, HO, HQ, HK, HV⟩, Hro⟩
  ihave Hro := (ring_gather m c) $$ Hro
  icases Hro with ⟨⟨Hdkr, Hdvr⟩, ⟨Hkr, Hvr⟩, Hleft, Hcox⟩
  -- the receives
  ihave Hrv := (recv_deal c) $$ [Hcor Hai]
  · isplitl [Hcor]; · iexact Hcor
    iexact Hai
  iapply (Tri.forEach (fun _ : List (Fin 12) => iprop(recs m ∗ Ow c [])) (fun i => recvIn c (recvE c i)) (fun i => recvOut m c (recvE c i)) (recvO c)
    (fun i _ => recvO_tri m c i) [0, 1, 2, 3, 4, 5, 6, 7, 8, 9, 10, 11] _ Q) $$ [HO Hrv]
  · isplitl [HO]
    · isplitr; · iexact HR
      iexact HO
    iexact Hrv
  iintro ⟨⟨-, HO⟩, Hrv⟩
  ihave Hrv := (recv_gather m c) $$ Hrv
  icases Hrv with ⟨Hdor, Hl', Hr'⟩
  ihave Hbuf := (Entails.of_eq (join16 c fullShare.left (oF m c))) $$ [Hleft Hl']
  · isplitl [Hleft]; · iexact Hleft
    iexact Hl'
  -- the result
  iapply (outBlk_tri m c fullShare.left _ Q) $$ [Hbuf Hout]
  · isplitl [Hbuf]; · iexact Hbuf
    iexact Hout
  iintro ⟨Hbuf, Hout⟩
  -- the sends
  ihave Hdr := (drain_deal c) $$ [Hcs Hakx Havx Hcox Hao]
  · isplitl [Hcs]; · iexact Hcs
    isplitl [Hakx]; · iexact Hakx
    isplitl [Havx]; · iexact Havx
    isplitl [Hcox]; · iexact Hcox
    iexact Hao
  iapply (Tri.forEach (fun _ : List (Fin 4) => iprop(recs m ∗ Ow c [])) (drainIn c) (drainOut m c) (drainBlk c)
    (fun j _ => drainBlk_tri m c j) [0, 1, 2, 3] _ Q) $$ [HO Hdr]
  · isplitl [HO]
    · isplitr; · iexact HR
      iexact HO
    iexact Hdr
  iintro ⟨⟨-, HO⟩, Hdr⟩
  ihave Hdr := (drain_gather m c) $$ Hdr
  icases Hdr with ⟨Hdkx, Hdvx, ⟨Hks, Hvs⟩, Hright, Hdox⟩
  ihave Hbuf' := (Entails.of_eq (join16 c fullShare.right (oF m c))) $$ [Hright Hr']
  · isplitl [Hright]; · iexact Hright
    iexact Hr'
  ihave Hob := (pointsTo_share (PosShare.mem_left_op_right fullShare)).2 $$ [Hbuf Hbuf']
  · isplitl [Hbuf]; · iexact Hbuf
    iexact Hbuf'
  -- the semaphores nobody used
  imod (close_row m c (aOx (rk c)) (not_used_ox c)) $$ [Haoz] with Hdoz
  · isplitr; · iexact HR
    iexact Haoz
  imod (close_row m c (aOr (rk c)) (not_used_or c)) $$ [Haiz] with Hdiz
  · isplitr; · iexact HR
    iexact Haiz
  rw [wp_ret]; imodintro
  iapply Hk
  isplitl [HO]; · iexact HO
  isplitl [Hzb Hdkx Hdkr Hdvx Hdvr Hdoz Hdox Hdiz Hdor]
  · isplitl [Hzb]; · iexact Hzb
    isplitl [Hdkx]; · iexact Hdkx
    isplitl [Hdkr]; · iexact Hdkr
    isplitl [Hdvx]; · iexact Hdvx
    isplitl [Hdvr]; · iexact Hdvr
    isplitl [Hdoz Hdox]
    · isplitl [Hdoz]; · iexact Hdoz
      iexact Hdox
    isplitl [Hdiz]; · iexact Hdiz
    iexact Hdor
  isplitl [Hks Hvs Hkr Hvr Hob]
  · isplitl [Hks]; · iexact Hks
    isplitl [Hvs]; · iexact Hvs
    isplitl [Hkr]; · iexact Hkr
    isplitl [Hvr]; · iexact Hvr
    unfold buf16
    iexists _; iexact Hob
  isplitl [HQ HK HV]
  · isplitl [HQ]; · iexact HQ
    isplitl [HK]; · iexact HK
    iexact HV
  iexact Hout

end Cert.KernelIdeal.Run
-- ==== Proof.KernelIdealRun.Ghost.lean ====
/- What the launch deals: the semaphores' records, each device's places, the payments' tokens handed to
   the devices that pay, and the credits of what the others owe it. -/
module

public import proofs.«01_k».proof.Proof.KernelIdealRun.Deal

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## Cells -/

/-- The forty-eight transfer semaphores of a device. -/
def xsem (p : Fin 12 × Fin 4) : SemLoc sig := .dma (dsem p.1 p.2)

theorem osem_inj : Function.Injective osem := by
  intro k k' h
  match k, k' with
  | none, none => rfl
  | none, some (a, j) => exact absurd h (fun h => by cases h)
  | some (a, j), none => exact absurd h (fun h => by cases h)
  | some (a, j), some (a', j') =>
    obtain ⟨rfl, rfl⟩ := dsem_inj (SemLoc.dma.inj h)
    rfl
theorem kcell_inj : Function.Injective kcell := by
  rintro ⟨c, k⟩ ⟨c', k'⟩ h
  have h1 : c = c' := congrArg (fun g : GSem nD τ sig => g.1.1) h
  have h2 : k = k' := osem_inj (congrArg Prod.snd h)
  rw [h1, h2]

theorem sep_swap (A B : sProp 𝕄) : iprop(A ∗ B) = iprop(B ∗ A) := by
  have h : ∀ A B : sProp 𝕄, iprop(A ∗ B) ⊢ iprop(B ∗ A) := fun A B => by
    iintro ⟨HA, HB⟩
    isplitl [HB]; · iexact HB
    iexact HA
  exact Idealize.SL.BI.Entails.antisymm (h A B) (h B A)

/-- Over a device's semaphores: the barrier's, and the transfers' by row and column. -/
theorem big_ci (Φ : CI → sProp 𝕄) :
    bigSep Finset.univ Φ = iprop(Φ none ∗ bigSep Finset.univ fun a : Fin 12 => bigSep Finset.univ fun j : Fin 4 => Φ (some (a, j))) := by
  rw [bigSep_univ_equiv (Equiv.optionEquivSumPUnit.{0} (Fin 12 × Fin 4)).symm Φ, bigSep_univ_sum, bigSep_univ_of_subsingleton PUnit.unit,
    bigSep_univ_prod]
  exact sep_swap _ _

/-! ## Tokens -/

/-- A device's own semaphores' payments: the barrier's four, and one on each transfer's. -/
abbrev TI : Type := Fin 4 ⊕ (Fin 12 × Fin 4)
def tokOf : Dev nD × TI → GSem nD τ sig × ℕ × Fin 4
  | (c, .inl o) => (bar c, 0, o)
  | (c, .inr (a, j)) => (dc c a j, 0, 0)
theorem tokOf_inj : Function.Injective tokOf := by
  rintro ⟨c, k⟩ ⟨c', k'⟩ h
  match k, k' with
  | .inl o, .inl o' =>
    have h1 : c = c' := congrArg (fun x : GSem nD τ sig × ℕ × Fin 4 => x.1.1.1) h
    have h2 : o = o' := congrArg (fun x : GSem nD τ sig × ℕ × Fin 4 => x.2.2) h
    rw [h1, h2]
  | .inl o, .inr (a, j) => exact absurd (congrArg (fun x : GSem nD τ sig × ℕ × Fin 4 => x.1.2) h) (fun h => by cases h)
  | .inr (a, j), .inl o => exact absurd (congrArg (fun x : GSem nD τ sig × ℕ × Fin 4 => x.1.2) h) (fun h => by cases h)
  | .inr (a, j), .inr (a', j') =>
    have h1 : c = c' := congrArg (fun x : GSem nD τ sig × ℕ × Fin 4 => x.1.1.1) h
    obtain ⟨rfl, rfl⟩ := dsem_inj (SemLoc.dma.inj (congrArg (fun x : GSem nD τ sig × ℕ × Fin 4 => x.1.2) h))
    rw [h1]

def runCells : Finset (GSem nD τ sig) := Finset.univ.map ⟨kcell, kcell_inj⟩
def runToks : Finset (GSem nD τ sig × ℕ × Fin 4) := Finset.univ.map ⟨tokOf, tokOf_inj⟩

/-- The launch's element: the staging's, and the exchange's. -/
def u₀ : UU := (initOf (Pipeline.cells cfgs cellOf_inj) (Pipeline.launchToks cfgs cellOf_inj), initOf runCells runToks)

/-- The tokens of the payments on device `c`'s own semaphores. -/
def toks (c : Dev nD) : sProp 𝕄 :=
  iprop((bigSep Finset.univ fun o : Fin 4 => dutyTok ER (bar c) 0 o) ∗ bigSep Finset.univ fun a : Fin 12 => bigSep Finset.univ fun j : Fin 4 => tok c a j)

/-- What the launch's element gives device `c`. -/
def G (c : Dev nD) : sProp 𝕄 :=
  iprop((bigSep Finset.univ fun k : CI => roundState ER (Rd m) (kcell (c, k)) 0) ∗ (bigSep Finset.univ fun k : CI => reached ER (kcell (c, k)) 0)
    ∗ (bigSep Finset.univ fun k : CI => atPos ER (kcell (c, k)) 0 (∅ : Finset (Fin 4)) 0) ∗ toks c)

theorem fund_run : BI.own (ER (initOf runCells runToks)) ⊢ (|==> bigSep Finset.univ (G m) : sProp 𝕄) := by
  have hX (Φ : GSem nD τ sig → sProp 𝕄) : bigSep runCells Φ = bigSep Finset.univ fun c : Dev nD => bigSep Finset.univ fun k : CI => Φ (kcell (c, k)) := by
    unfold runCells; rw [bigSep_map, bigSep_univ_prod]; rfl
  have hT : bigSep runToks (fun x => (dutyTok ER x.1 x.2.1 x.2.2 : sProp 𝕄)) = bigSep Finset.univ fun c : Dev nD => toks c := by
    unfold runToks; rw [bigSep_map, bigSep_univ_prod]
    refine bigSep_congr fun c _ => ?_
    unfold toks
    rw [bigSep_univ_sum, bigSep_univ_prod]
    rfl
  unfold G
  rw [bigSep_sep', bigSep_sep', bigSep_sep']
  refine (Rounds.fund ER (Rd m) runCells runToks).trans (BI.bupd_mono ?_)
  rw [hX, hX, hX, hT]
  exact Idealize.SL.BI.Entails.refl _

/-- Tokens on the semaphores of the devices along a permutation. -/
theorem toks_along {ι : Type} [Fintype ι] (e : Dev nD ≃ Dev nD) (Φ : Dev nD → ι → sProp 𝕄) :
    (bigSep Finset.univ fun c : Dev nD => bigSep Finset.univ fun j : ι => Φ c j)
      = bigSep Finset.univ fun c : Dev nD => bigSep Finset.univ fun j : ι => Φ (e c) j :=
  bigSep_univ_equiv e fun c => bigSep Finset.univ fun j : ι => Φ c j

theorem rk_back (c : Dev nD) (o : Fin 3) : rk (on c o.succ) + (Fin.rev o).succ = rk c := by revert c o; decide

/-- The tokens of the signals, from the devices signalled to the devices that signal. -/
theorem toks_bar : (bigSep Finset.univ fun c : Dev nD => bigSep Finset.univ fun o : Fin 4 => (dutyTok ER (bar c) 0 o : sProp 𝕄))
    = bigSep Finset.univ fun c : Dev nD => barTok c := by
  unfold barTok
  rw [bigSep_congr (s := Finset.univ) fun (c : Dev nD) _ => big_succ fun o : Fin 4 => (dutyTok ER (bar c) 0 o : sProp 𝕄), bigSep_sep', bigSep_sep',
    bigSep_univ_equiv xnE fun c : Dev nD => (dutyTok ER (bar c) 0 (0 : Fin 4) : sProp 𝕄),
    bigSep_univ_comm fun (c : Dev nD) (o : Fin 3) => (dutyTok ER (bar c) 0 o.succ : sProp 𝕄),
    bigSep_univ_comm fun (c : Dev nD) (o : Fin 3) => (dutyTok ER (bar (on c o.succ)) 0 o.succ : sProp 𝕄),
    bigSep_congr (s := Finset.univ) fun (o : Fin 3) _ => bigSep_univ_equiv (onE o.succ) fun c : Dev nD => (dutyTok ER (bar c) 0 o.succ : sProp 𝕄)]
  rfl

/-- The tokens of the heads' receives, from the devices that receive to the devices that send. -/
theorem toks_out : (bigSep Finset.univ fun c : Dev nD => bigSep Finset.univ fun o : Fin 3 => bigSep Finset.univ fun j : Fin 4 => (tok c (aOr (rk c + o.succ)) j : sProp 𝕄))
    = bigSep Finset.univ fun c : Dev nD => bigSep Finset.univ fun o : Fin 3 => bigSep Finset.univ fun j : Fin 4 => (tok (on c o.succ) (aOr (rk c)) j : sProp 𝕄) := by
  rw [bigSep_univ_comm fun (c : Dev nD) (o : Fin 3) => bigSep Finset.univ fun j : Fin 4 => (tok c (aOr (rk c + o.succ)) j : sProp 𝕄),
    bigSep_univ_comm fun (c : Dev nD) (o : Fin 3) => bigSep Finset.univ fun j : Fin 4 => (tok (on c o.succ) (aOr (rk c)) j : sProp 𝕄),
    bigSep_univ_equiv Fin.revPerm]
  refine bigSep_congr fun o _ => ?_
  rw [bigSep_univ_equiv (onE o.succ)]
  refine bigSep_congr fun c _ => bigSep_congr fun j _ => ?_
  show tok (on c o.succ) (aOr (rk (on c o.succ) + (Fin.rev o).succ)) j = _
  rw [rk_back]

theorem toks_deal : (bigSep Finset.univ fun c : Dev nD => (toks c : sProp 𝕄)) ⊢ bigSep Finset.univ fun c : Dev nD => tokIn c := by
  unfold toks tokIn
  rw [bigSep_congr (s := Finset.univ) fun (c : Dev nD) _ => congrArg (fun X : sProp 𝕄 => iprop((bigSep Finset.univ fun o : Fin 4 => dutyTok ER (bar c) 0 o) ∗ X))
    (rows c fun a => bigSep Finset.univ fun j : Fin 4 => tok c a j)]
  simp only [bigSep_sep']
  rw [toks_bar, toks_along xnE fun (c : Dev nD) (j : Fin 4) => (tok c aKr j : sProp 𝕄), toks_along xnE fun (c : Dev nD) (j : Fin 4) => (tok c aVr j : sProp 𝕄), toks_out]
  iintro ⟨Hb, Hkx, Hkr, Hvx, Hvr, ⟨-, Hox⟩, -, Hor⟩
  isplitl [Hb]; · iexact Hb
  isplitl [Hkx]; · iexact Hkx
  isplitl [Hkr]; · iexact Hkr
  isplitl [Hvx]; · iexact Hvx
  isplitl [Hvr]; · iexact Hvr
  isplitl [Hox]; · iexact Hox
  iexact Hor

/-! ## The records -/

theorem sems0_eq (c : Dev nD) :
    (iprop(Pipeline.ownSems0 (Ix := Unit) (Name := ℕ) (U := UU) (Lvl := ℕ) (Val := Elt F) (τ := τ) xsem c ∗ unscopedSems0 c) : sProp 𝕄)
      = bigSep Finset.univ fun k : CI => semVal (kcell (c, k)) 0 := by
  rw [big_ci]
  unfold Pipeline.ownSems0 unscopedSems0
  rw [bigSep_univ_prod, bigSep_eq_bigSepL_of_eq [SemLoc.reg barS] (by decide) (by decide)]
  exact sep_swap _ _

/-- What the launch leaves device `c` with, besides what every device knows. -/
def dealt (c : Dev nD) : sProp 𝕄 := iprop(posIn c ∗ tokIn c)
def G' (c : Dev nD) : sProp 𝕄 := iprop((bigSep Finset.univ fun ck : Dev nD × CI => know m (kcell ck)) ∗ dealt c)

theorem core_alloc (c : Dev nD) :
    iprop(Pipeline.ownSems0 (Ix := Unit) (Name := ℕ) (U := UU) (Lvl := ℕ) (Val := Elt F) (τ := τ) xsem c ∗ unscopedSems0 c ∗ G m c)
      ⊢ |={Set.univ}=> iprop((bigSep Finset.univ fun k : CI => know m (kcell (c, k))) ∗ posIn c ∗ toks c) := by
  have hI : iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G know posIn
  rw [bigSep_sep', big_ci fun k : CI => atPos ER (kcell (c, k)) 0 (∅ : Finset (Fin 4)) 0]
  iintro ⟨Hos, Hus, Hst, Hre, Hat, Htok⟩
  ihave Hv := (Entails.of_eq (sems0_eq (F := F) c)) $$ [Hos Hus]
  · isplitl [Hos]; · iexact Hos
    iexact Hus
  imod hI $$ [Hv Hst] with Hinv
  · isplitl [Hv]; · iexact Hv
    iexact Hst
  imodintro
  isplitl [Hinv Hre]
  · isplitl [Hinv]; · iexact Hinv
    iexact Hre
  isplitl [Hat]; · iexact Hat
  iexact Htok

/-- From all the semaphores at once: every device knows every cell, and holds the tokens it pays with. -/
theorem glob : (bigSep Finset.univ fun c => iprop(Pipeline.ownSems0 (Ix := Unit) (Name := ℕ) (U := UU) (Lvl := ℕ) (Val := Elt F) (τ := τ) xsem c ∗ unscopedSems0 c ∗ G m c) : sProp 𝕄)
    ⊢ |={Set.univ}=> bigSep Finset.univ (G' m) := by
  have hd : (bigSep Finset.univ fun c : Dev nD => iprop((bigSep Finset.univ fun k : CI => know m (kcell (c, k))) ∗ posIn c ∗ toks c))
      ⊢ (bigSep Finset.univ (G' m) : sProp 𝕄) := by
    rw [bigSep_sep', bigSep_sep', ← bigSep_univ_prod fun ck : Dev nD × CI => know m (kcell ck)]
    iintro ⟨#HK, Hpos, Htok⟩
    ihave Htok := (toks_deal (F := F)) $$ Htok
    iapply (bigSep_with_persistent (R := bigSep Finset.univ fun ck : Dev nD × CI => know m (kcell ck)) (Φ := dealt (F := F)) (Ψ := G' m) fun c _ => Entails.refl _)
    isplitr; · iexact HK
    unfold dealt
    rw [bigSep_sep']
    isplitl [Hpos]; · iexact Hpos
    iexact Htok
  exact ((bigSep_mono fun c _ => core_alloc m c).trans (bigSep_fupd _ _)).trans (BI.fupd_mono hd)

/-! ## The credits -/

/-- What device `c` owes at launch. -/
def O₀ (c : Dev nD) : CellTallies nD τ sig Unit := owe (debts c)

theorem owe_mem {l : Debts} {g : GSem nD τ sig} {n : ℕ} (h : (g, n) ∈ l) : n ≤ owe l g () := by
  induction l with
  | nil => exact absurd h List.not_mem_nil
  | cons p l ih =>
    unfold owe
    rw [Pi.add_apply, Finsupp.add_apply]
    rcases List.mem_cons.mp h with rfl | h
    · rw [tallyAt_self]; exact Nat.le_add_left _ _
    · exact (ih h).trans (Nat.le_add_right _ _)

/-- The credit at a cell, at least what some devices owe it. -/
theorem cred_of (g : GSem nD τ sig) (S : Finset (Dev nD)) (n : ℕ) (h : ∀ d ∈ S, (g, n) ∈ debts d) :
    (cred (tallyOn g (launchCredit (Pipeline.owing O₀) 0 g)) : sProp 𝕄) ⊢ cred (tallyAt g () (S.card * n)) := by
  have hle : S.card * n ≤ launchCredit (Pipeline.owing O₀) 0 g () := by
    rw [Pipeline.launchCredit_owing]
    refine le_trans ?_ (Finset.sum_le_sum_of_subset (Finset.subset_univ S))
    rw [← smul_eq_mul]
    exact Finset.card_nsmul_le_sum S _ n fun d hd => owe_mem (h d hd)
  have he : tallyOn g (launchCredit (Pipeline.owing O₀) 0 g)
      = (tallyAt g () (S.card * n) + tallyAt g () (launchCredit (Pipeline.owing O₀) 0 g () - S.card * n) : CellTallies nD τ sig Unit) := by
    rw [tallyAt_add, Nat.add_sub_cancel' hle]
    unfold tallyAt
    refine congrArg _ (Finsupp.ext fun u => ?_)
    cases u
    rw [Finsupp.single_eq_same]
  rw [he]
  exact (cred_add _ _).1.trans (sep_elim_left (PROP := sProp 𝕄))

theorem owes_bar (c : Dev nD) : ∀ d ∈ ({xn c, on c 1, on c 2, on c 3} : Finset (Dev nD)), (bar c, 1) ∈ debts d := by
  intro d hd
  unfold debts debtBar
  refine List.mem_append_left _ ?_
  simp only [Finset.mem_insert, Finset.mem_singleton] at hd
  rcases hd with rfl | rfl | rfl | rfl
  · rw [xn_xn]; simp
  · rw [show on (on c 1) 3 = c from on_neg c 1]; simp
  · rw [show on (on c 2) 2 = c from on_neg c 2]; simp
  · rw [show on (on c 3) 1 = c from on_neg c 3]; simp
theorem card_bar (c : Dev nD) : ({xn c, on c 1, on c 2, on c 3} : Finset (Dev nD)).card = 4 := by revert c; decide

theorem all4 (j : Fin 4) : j ∈ [0, 1, 2, 3] := by revert j; decide
theorem owes_kr (c : Dev nD) (j : Fin 4) : ∀ d ∈ ({xn c} : Finset (Dev nD)), (dc c aKr j, N) ∈ debts d := by
  intro d hd
  rw [Finset.mem_singleton.mp hd]
  refine List.mem_append_right _ (List.mem_append_left _ (List.mem_flatMap.mpr ⟨j, all4 j, ?_⟩))
  unfold debtSt; rw [xn_xn]; exact List.mem_cons_self
theorem owes_vr (c : Dev nD) (j : Fin 4) : ∀ d ∈ ({xn c} : Finset (Dev nD)), (dc c aVr j, N) ∈ debts d := by
  intro d hd
  rw [Finset.mem_singleton.mp hd]
  refine List.mem_append_right _ (List.mem_append_left _ (List.mem_flatMap.mpr ⟨j, all4 j, ?_⟩))
  unfold debtSt; rw [xn_xn]; exact List.mem_cons_of_mem _ List.mem_cons_self
theorem mem_debtO (c : Dev nD) (o : Fin 3) (j : Fin 4) : (dc (on c o.succ) (aOr (rk c)) j, N) ∈ debtO c j := by
  unfold debtO
  match o with
  | 0 => exact List.mem_cons_self
  | 1 => exact List.mem_cons_of_mem _ List.mem_cons_self
  | 2 => exact List.mem_cons_of_mem _ (List.mem_cons_of_mem _ List.mem_cons_self)
theorem on_back (c : Dev nD) (o : Fin 3) : on (on c o.succ) (Fin.rev o).succ = c := by revert c o; decide
theorem owes_or (c : Dev nD) (o : Fin 3) (j : Fin 4) : ∀ d ∈ ({on c o.succ} : Finset (Dev nD)), (dc c (aOr (rk c + o.succ)) j, N) ∈ debts d := by
  intro d hd
  rw [Finset.mem_singleton.mp hd]
  refine List.mem_append_right _ (List.mem_append_right _ (List.mem_flatMap.mpr ⟨j, all4 j, ?_⟩))
  have h := mem_debtO (on c o.succ) (Fin.rev o) j
  rwa [on_back, rk_on] at h

/-- The credit at a transfer's semaphore that one device owes. -/
theorem cred_one (c d : Dev nD) (a : Fin 12) (j : Fin 4) (h : ∀ e ∈ ({d} : Finset (Dev nD)), (dc c a j, N) ∈ debts e) :
    (cred (tallyOn (dc c a j) (launchCredit (Pipeline.owing O₀) 0 (dc c a j))) : sProp 𝕄) ⊢ crd c a j := by
  have := cred_of (F := F) (dc c a j) {d} N h
  rwa [Finset.card_singleton, Nat.one_mul] at this

theorem creds (c : Dev nD) : (Pipeline.launchCred O₀ c : sProp 𝕄) ⊢ crdIn c := by
  have hs : (Pipeline.launchCred O₀ c : sProp 𝕄) ⊢ bigSep Finset.univ fun k : CI => cred (tallyOn (kcell (c, k)) (launchCredit (Pipeline.owing O₀) 0 (kcell (c, k)))) := by
    unfold Pipeline.launchCred
    have h := bigSep_subset (Finset.subset_univ (Finset.univ.map ⟨osem, osem_inj⟩))
      (Φ := fun sm : SemLoc sig => (cred (tallyOn ((c : Thread nD τ), sm) (launchCredit (Pipeline.owing O₀) 0 ((c : Thread nD τ), sm))) : sProp 𝕄))
    rw [bigSep_map] at h
    exact h
  have hb := cred_of (F := F) (bar c) _ 1 (owes_bar c)
  rw [card_bar, Nat.mul_one] at hb
  refine hs.trans ?_
  rw [big_ci]
  refine BIClass.sep_mono hb ?_
  show (bigSep Finset.univ fun a : Fin 12 => bigSep Finset.univ fun j : Fin 4 => cred (tallyOn (dc c a j) (launchCredit (Pipeline.owing O₀) 0 (dc c a j))))
    ⊢ iprop((bigSep Finset.univ fun j : Fin 4 => crd c aKr j) ∗ (bigSep Finset.univ fun j : Fin 4 => crd c aVr j)
      ∗ bigSep Finset.univ fun p : Fin 3 × Fin 4 => crd c (aOr (rk c + p.1.succ)) p.2)
  rw [rows c fun a => bigSep Finset.univ fun j : Fin 4 => cred (tallyOn (dc c a j) (launchCredit (Pipeline.owing O₀) 0 (dc c a j)))]
  rw [bigSep_univ_prod]
  have hk : (bigSep Finset.univ fun j : Fin 4 => (cred (tallyOn (dc c aKr j) (launchCredit (Pipeline.owing O₀) 0 (dc c aKr j))) : sProp 𝕄)) ⊢ bigSep Finset.univ fun j : Fin 4 => crd c aKr j :=
    bigSep_mono fun j _ => cred_one c _ aKr j (owes_kr c j)
  have hv : (bigSep Finset.univ fun j : Fin 4 => (cred (tallyOn (dc c aVr j) (launchCredit (Pipeline.owing O₀) 0 (dc c aVr j))) : sProp 𝕄)) ⊢ bigSep Finset.univ fun j : Fin 4 => crd c aVr j :=
    bigSep_mono fun j _ => cred_one c _ aVr j (owes_vr c j)
  have ho : (bigSep Finset.univ fun o : Fin 3 => bigSep Finset.univ fun j : Fin 4 => (cred (tallyOn (dc c (aOr (rk c + o.succ)) j) (launchCredit (Pipeline.owing O₀) 0 (dc c (aOr (rk c + o.succ)) j))) : sProp 𝕄))
      ⊢ bigSep Finset.univ fun o : Fin 3 => bigSep Finset.univ fun j : Fin 4 => crd c (aOr (rk c + o.succ)) j :=
    bigSep_mono fun o _ => bigSep_mono fun j _ => cred_one c _ _ j (owes_or c o j)
  iintro ⟨-, Hk, -, Hv, -, -, Ho⟩
  isplitl [Hk]; · iapply hk; iexact Hk
  isplitl [Hv]; · iapply hv; iexact Hv
  iapply ho; iexact Ho

end Cert.KernelIdeal.Run
-- ==== Proof.KernelIdealRun.Launch.lean ====
/- The launch: the body's obligation from the proof of the function, and the run of @main on the sixteen
   devices, with every device's result in closed form and every semaphore at zero. -/
module

public import proofs.«01_k».proof.Proof.KernelIdealRun.Ghost
public import proofs.«01_k».proof.Proof.Gen.KernelIdeal.Points
public import Idealize.ShloMosaic.Lib.Pipeline.Value
public import Idealize.ShloMosaic.Lib.Pipeline.CollectiveSegs

@[expose] public section

set_option synthInstance.maxSize 4096

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- The memory at launch: any contents, every semaphore at zero. -/
def s₀ : MemSt nD τ sig (Elt F) := ⟨m, fun _ => 0, ρ⟩

/-! ## The pipeline's data -/

/-- What a device holds before the kernel and after it, besides its staged blocks. -/
def start (c : Dev nD) : sProp 𝕄 := iprop(recs m ∗ crdIn c ∗ posIn c ∗ tokIn c)
def Φ₀ (c : Dev nD) : sProp 𝕄 := iprop(start m c ∗ bufs c)
def Φ₁ (c : Dev nD) : sProp 𝕄 := iprop(semsOut c ∗ bufs c)

def dats (_ : Fin 1) (c : Dev nD) : Dat τ (Elt F) Unit ℕ UU ℕ cfg0 c where
  A w := m ((cfg0.win w).arr.view.loc (c : Thread nD τ))
  after w _ := match w with
    | ⟨0, _⟩ => qB m c
    | ⟨1, _⟩ => kB m c
    | ⟨2, _⟩ => vB m c
    | ⟨3, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 4) t0_0 d = qB m c := by
  unfold Dat.before; rw [if_pos (fetch0_0 t0_0)]; rfl
theorem before_1 (c : Dev nD) (d) : (dats m 0 c).before (1 : Fin 4) t0_0 d = kB m c := by
  unfold Dat.before; rw [if_pos (fetch0_1 t0_0)]; rfl
theorem before_2 (c : Dev nD) (d) : (dats m 0 c).before (2 : Fin 4) t0_0 d = vB m c := by
  unfold Dat.before; rw [if_pos (fetch0_2 t0_0)]; rfl

/-! ## The body -/

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ c ∗ (dats m 0 c).owesAt () t0_0.succ
    ∗ stg c cc0_stg0_0 (qB m c) ∗ stg c cc0_stg1_0 (kB m c) ∗ stg c cc0_stg2_0 (vB m c) ∗ stg c cc0_stg3_0 (outV m c))

theorem pre_in (c : Dev nD) : bodyPre m c ⊢ bodyIn m c := by
  unfold bodyPre bodyIn Φ₀ start inputs Dat.owesAt Pipeline.owesWithin Ow
  rw [show (dats m 0 c).owed t0_0.castSucc = owe (debts c) from rfl]
  iintro ⟨⟨⟨HR, Hc, Hp, Ht⟩, Hb⟩, ⟨%W, %hW, HO⟩, ⟨%d0, %g0, %h0, H0⟩, ⟨%d1, %g1, %h1, H1⟩, ⟨%d2, %g2, %h2, H2⟩, ⟨%d3, %g3, %h3, H3⟩⟩
  rw [before_0] at h0
  rw [before_1] at h1
  rw [before_2] at h2
  subst h0 h1 h2
  isplitl [HR HO]
  · isplitl [HR]; · iexact HR
    iexists W; iexact HO
  isplitl [Hc Hp Ht]
  · isplitl [Hc]; · iexact Hc
    isplitl [Hp]; · iexact Hp
    iexact Ht
  isplitl [Hb]; · iexact Hb
  isplitl [H0 H1 H2]
  · isplitl [H0]; · iexact H0
    isplitl [H1]; · iexact H1
    iexact H2
  iexists g3; iexact H3

theorem out_post (c : Dev nD) : bodyOut m c ⊢ bodyPost m c := by
  unfold bodyPost bodyOut Φ₁ inputs Dat.owesAt Pipeline.owesWithin Ow
  rw [show (dats m 0 c).owed t0_0.succ = owe [] from rfl]
  iintro ⟨⟨%W, HO⟩, Hs, Hb, ⟨H0, H1, H2⟩, H3⟩
  isplitl [Hs Hb]
  · isplitl [Hs]; · iexact Hs
    iexact Hb
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem body_spec (c : Dev nD) : bodyPre m c ⊢ Wp c (body (F := F)) fun _ => bodyPost m c := by
  rw [body_eq]
  simp only [wp_deviceId]
  iintro H
  ihave H := (pre_in m c) $$ H
  iapply (prog_spec m c fun _ => bodyPost m c) $$ H
  iintro H
  iapply (out_post m c)
  iexact H

set_option maxRecDepth 100000 in
/-- The body's obligation on every device. -/
theorem body_obligation (c : Dev nD) : BodyObligation (dats m 0 c) (defs₀ (F := F)) 𝒱₀ () Set.univ := fun t => by
  rw [fin_N0 t]
  rw [bigSep_W, bigSep_W]
  simp only [owns_whole_eq]
  have h := body_spec m c
  unfold body at h
  exact h

/-! ## The launch's side conditions -/

theorem ownSemFacts : Pipeline.OwnSemFacts cfg0.spec xsem :=
  ⟨by decide, fun p q h => by
    obtain ⟨h1, h2⟩ := dsem_inj (SemLoc.dma.inj h)
    exact Prod.ext h1 h2, by decide⟩
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' dealt recs
  iintro ⟨-, Hlev, Hcr, -, HK, Hp, Ht⟩
  ihave Hc := (creds (F := F) c) $$ Hcr
  imodintro
  isplitl
  · isplitl [HK Hlev]
    · isplitl [HK]; · iexact HK
      iexact Hlev
    isplitl [Hc]; · iexact Hc
    isplitl [Hp]; · iexact Hp
    iexact Ht
  · iempintro

theorem bufs_eq (c : Dev nD) : (Pipeline.scopedRest cfg0.spec c : sProp 𝕄) ⊢ bufs c := by
  rw [scopedRest0_eq]
  unfold bufs buf4 buf16
  iintro ⟨Hk, Hv, Hkr, Hvr, Ho⟩
  isplitl [Hk]; · iexact Hk
  isplitl [Hv]; · iexact Hv
  isplitl [Hkr]; · iexact Hkr
  isplitl [Hvr]; · iexact Hvr
  iexact Ho
theorem bufs_rest (c : Dev nD) : (bufs c : sProp 𝕄) ⊢ Pipeline.scopedRest cfg0.spec c := by
  rw [scopedRest0_eq]
  unfold bufs buf4 buf16
  iintro ⟨Hk, Hv, Hkr, Hvr, Ho⟩
  isplitl [Hk]; · iexact Hk
  isplitl [Hv]; · iexact Hv
  isplitl [Hkr]; · iexact Hkr
  isplitl [Hvr]; · iexact Hvr
  iexact Ho

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (bufs_eq (F := F) c); iexact Hr

theorem phi1_exit (c : Dev nD) :
    (dats m 0 c).Φ (Fin.last cfg0.N) ⊢ iprop(unscopedSems0 c ∗ Pipeline.ownSems0 xsem c ∗ Pipeline.scopedRest cfg0.spec c) := by
  rw [show (dats m 0 c).Φ (Fin.last cfg0.N) = Φ₁ c from rfl]
  have hs : (semsOut c : sProp 𝕄) ⊢ iprop(Pipeline.ownSems0 (Ix := Unit) (Name := ℕ) (U := UU) (Lvl := ℕ) (Val := Elt F) (τ := τ) xsem c ∗ unscopedSems0 c) := by
    rw [sems0_eq, big_ci]
    exact Entails.refl _
  unfold Φ₁
  iintro ⟨Hs, Hb⟩
  ihave Hs := hs $$ Hs
  icases Hs with ⟨Ho, Hu⟩
  isplitl [Hu]; · iexact Hu
  isplitl [Ho]; · iexact Ho
  iapply (bufs_rest (F := F) c); iexact Hb

/-- A wait on a staging semaphore lies below everything a device owes. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · exact mayWait_above (l := debts c) c _ hq (above_debts c)
  · exact mayWait_above (l := []) c _ hq (above_nil 0)
set_option maxRecDepth 100000 in
/-- Every wait of the pipeline on its staging semaphores may be made. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with every semaphore at zero: every fair execution of @main on
    the sixteen devices terminates, with every array at its computed contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_run m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input array ends as it began. -/
theorem finalA_0 (c : Dev nD) : finalA m c (0 : Fin 4) = m ((c : Thread nD τ).loc main_arg0) := (dats m 0 c).arrAt_in (0 : Fin 4) rfl _
theorem finalA_1 (c : Dev nD) : finalA m c (1 : Fin 4) = m ((c : Thread nD τ).loc main_arg1) := (dats m 0 c).arrAt_in (1 : Fin 4) rfl _
theorem finalA_2 (c : Dev nD) : finalA m c (2 : Fin 4) = m ((c : Thread nD τ).loc main_arg2) := (dats m 0 c).arrAt_in (2 : Fin 4) rfl _

/-- The result's one block is the whole array. -/
theorem emb_out (i : S1x1024x16x128.Idx) : ((cfg0.win (3 : Fin 4)).blk t0_0).view.emb i = i := by
  funext a
  apply Fin.ext
  show 0 * S1x1024x16x128.size a + 1 * (i a).val = (i a).val
  omega

/-- The result array ends at what the device stored. -/
theorem finalA_3 (c : Dev nD) : finalA m c (3 : Fin 4) = outV m c :=
  Dat.arrAt_eq_of_cover (dats m 0 c) (3 : Fin 4) (outV m c)
    (fun t _ => by rw [fin_N0 t]; exact funext fun i => congrArg (outV m c) (emb_out i).symm)
    (fun i => ⟨t0_0, flush0_3 _, Finset.mem_map.mpr ⟨i, Finset.mem_univ _, emb_out i⟩⟩)

/-- The run, read at the named arrays. -/
theorem run_arrays : θ_run defs (onTc (τ := τ) (main (F := F))) ⟨m, fun _ => 0, ρ⟩ (fun r => (∀ c : Dev nD,
      r.2.mem ((c : Thread nD τ).loc main_v1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (finalA_3 m c), (h.1 c (0 : Fin 4)).trans (finalA_0 m c),
    (h.1 c (1 : Fin 4)).trans (finalA_1 m c), (h.1 c (2 : Fin 4)).trans (finalA_2 m c)⟩, h.2⟩) (run_main m ρ)

end Cert.KernelIdeal.Run
-- ==== Proof.Value.Soft.lean ====
/- Softmax attention over extended reals: a row of finite scores, computed in two halves with a
   maximum each and combined, is the row computed at once. -/
module

public import Idealize.ShloMosaic.PureOps.Ideal.Laws

@[expose] public section

noncomputable section

namespace Cert.Soft

open Idealize.ShloMosaic

variable {ι κ : Type} [Fintype ι] [Fintype κ]

/-- A sum times a nonnegative real, term by term; the terms may be infinite. -/
theorem sum_mul_coe (f : ι → EReal) {a : ℝ} (ha : 0 ≤ a) : (∑ k, f k) * (a : EReal) = ∑ k, f k * (a : EReal) := by
  classical
  induction (Finset.univ : Finset ι) using Finset.induction_on with
  | empty => simp
  | insert x s hx ih =>
    rw [Finset.sum_insert hx, Finset.sum_insert hx, ← ih]
    exact EReal.right_distrib_of_nonneg_of_ne_top (EReal.coe_nonneg.mpr ha) (EReal.coe_ne_top a) _ _

/-- An exponential of a difference of reals. -/
theorem exp_sub (x y : ℝ) : Ideal.exp ((x : EReal) - (y : EReal)) = ((Real.exp (x - y) : ℝ) : EReal) := by
  rw [← EReal.coe_sub, Ideal.exp_coe]

/-- A sum of reals. -/
theorem sum_coe (f : ι → ℝ) : ∑ k, ((f k : ℝ) : EReal) = ((∑ k, f k : ℝ) : EReal) := by
  classical
  induction (Finset.univ : Finset ι) using Finset.induction_on with
  | empty => simp
  | insert x s hx ih => rw [Finset.sum_insert hx, Finset.sum_insert hx, ih, EReal.coe_add]

/-- Weights taken against `m`, moved to `M`. -/
theorem shift_val (σ : ι → ℝ) (v : ι → EReal) (m M : ℝ) :
    (∑ k, Ideal.exp ((σ k : EReal) - (m : EReal)) * v k) * Ideal.exp ((m : EReal) - (M : EReal))
      = ∑ k, Ideal.exp ((σ k : EReal) - (M : EReal)) * v k := by
  rw [exp_sub, sum_mul_coe _ (Real.exp_pos _).le]
  refine Finset.sum_congr rfl fun k _ => ?_
  rw [exp_sub, exp_sub, mul_right_comm, ← EReal.coe_mul, ← Real.exp_add, sub_add_sub_cancel]

/-- Their sum, moved likewise. -/
theorem shift_sum (σ : ι → ℝ) (m M : ℝ) :
    (∑ k, Ideal.exp ((σ k : EReal) - (m : EReal))) * Ideal.exp ((m : EReal) - (M : EReal))
      = ∑ k, Ideal.exp ((σ k : EReal) - (M : EReal)) := by
  have h := shift_val σ (fun _ => 1) m M
  simpa only [mul_one] using h

/-- The sum of the weights is a positive real. -/
theorem sum_pos [Nonempty ι] (σ : ι → ℝ) (m : ℝ) :
    ∃ L : ℝ, 0 < L ∧ ∑ k, Ideal.exp ((σ k : EReal) - (m : EReal)) = (L : EReal) :=
  ⟨∑ k, Real.exp (σ k - m), Finset.sum_pos (fun _ _ => Real.exp_pos _) Finset.univ_nonempty, by
    simp only [exp_sub]; exact sum_coe _⟩

/-- Weights normalised one by one are the weighted sum normalised at the end. -/
theorem div_out [Nonempty κ] (σ : κ → ℝ) (v : κ → EReal) (M : ℝ) :
    ∑ k, v k * Ideal.div (Ideal.exp ((σ k : EReal) - (M : EReal))) (∑ j, Ideal.exp ((σ j : EReal) - (M : EReal)))
      = Ideal.div (∑ k, Ideal.exp ((σ k : EReal) - (M : EReal)) * v k) (∑ j, Ideal.exp ((σ j : EReal) - (M : EReal))) := by
  obtain ⟨L, hL, h⟩ := sum_pos σ M
  rw [h, Ideal.div_coe hL.ne', sum_mul_coe _ (one_div_nonneg.mpr hL.le)]
  refine Finset.sum_congr rfl fun k _ => ?_
  rw [Ideal.div_coe hL.ne', ← mul_assoc, mul_comm (v k)]

/-- The normalised weighted sum does not depend on what the scores are taken against. -/
theorem div_shift [Nonempty κ] (σ : κ → ℝ) (v : κ → EReal) (m M : ℝ) :
    Ideal.div (∑ k, Ideal.exp ((σ k : EReal) - (M : EReal)) * v k) (∑ j, Ideal.exp ((σ j : EReal) - (M : EReal)))
      = Ideal.div (∑ k, Ideal.exp ((σ k : EReal) - (m : EReal)) * v k) (∑ j, Ideal.exp ((σ j : EReal) - (m : EReal))) := by
  rw [← shift_val σ v m M, ← shift_sum σ m M]
  obtain ⟨L, hL, h⟩ := sum_pos σ m
  have hb := Real.exp_pos (m - M)
  rw [h, exp_sub, ← EReal.coe_mul, Ideal.div_coe (mul_pos hL hb).ne', Ideal.div_coe hL.ne', mul_assoc, ← EReal.coe_mul]
  congr 2
  field_simp

/-- **Two halves combined.** With the keys cut in two, each half's weights taken against its own reference point,
    summed, and moved to the larger of the two points, the quotient is the attention over all the keys, whatever
    point `M` that is taken against. -/
theorem two_halves [Nonempty κ] (i₁ i₂ : ι → κ) (hsum : ∀ f : κ → EReal, ∑ k, f k = ∑ k, f (i₁ k) + ∑ k, f (i₂ k))
    (s v : κ → EReal) (hs : ∀ k, ∃ r : ℝ, s k = r) (m₁ m₂ M : EReal) (h₁ : ∃ r : ℝ, m₁ = r) (h₂ : ∃ r : ℝ, m₂ = r) (hM : ∃ r : ℝ, M = r) :
    Ideal.div
        ((∑ k, Ideal.exp (s (i₁ k) - m₁) * v (i₁ k)) * Ideal.exp (m₁ - max m₁ m₂)
          + (∑ k, Ideal.exp (s (i₂ k) - m₂) * v (i₂ k)) * Ideal.exp (m₂ - max m₁ m₂))
        ((∑ k, Ideal.exp (s (i₁ k) - m₁)) * Ideal.exp (m₁ - max m₁ m₂)
          + (∑ k, Ideal.exp (s (i₂ k) - m₂)) * Ideal.exp (m₂ - max m₁ m₂))
      = ∑ k, v k * Ideal.div (Ideal.exp (s k - M)) (∑ j, Ideal.exp (s j - M)) := by
  choose σ hσ using hs
  obtain rfl : s = fun k => (σ k : EReal) := funext hσ
  obtain ⟨a, rfl⟩ := h₁
  obtain ⟨b, rfl⟩ := h₂
  obtain ⟨M, rfl⟩ := hM
  have hmax : max (a : EReal) (b : EReal) = ((max a b : ℝ) : EReal) := (EReal.coe_strictMono.monotone.map_max).symm
  rw [hmax, shift_val (fun k => σ (i₁ k)) (fun k => v (i₁ k)), shift_val (fun k => σ (i₂ k)) (fun k => v (i₂ k)),
    shift_sum (fun k => σ (i₁ k)), shift_sum (fun k => σ (i₂ k)),
    ← hsum fun k => Ideal.exp ((σ k : EReal) - ((max a b : ℝ) : EReal)) * v k,
    ← hsum fun k => Ideal.exp ((σ k : EReal) - ((max a b : ℝ) : EReal)), div_out σ v M]
  exact div_shift σ v M _

/-- The largest of finitely many reals, and at least one, is a real. -/
theorem fold_max_real {n : ℕ} (hn : 0 < n) (f : Fin n → EReal) (hf : ∀ k, ∃ r : ℝ, f k = r) :
    ∃ r : ℝ, (Finset.univ : Finset (Fin n)).fold max ⊥ f = r := by
  choose σ hσ using hf
  obtain rfl : f = fun k => (σ k : EReal) := funext hσ
  have key : ∀ s : Finset (Fin n), s.fold max ⊥ (fun k => (σ k : EReal)) = ⊥ ∧ s = ∅ ∨ ∃ r : ℝ, s.fold max ⊥ (fun k => (σ k : EReal)) = r := by
    intro s
    induction s using Finset.induction_on with
    | empty => exact Or.inl ⟨rfl, rfl⟩
    | insert x s hx ih =>
      refine Or.inr ?_
      rw [Finset.fold_insert hx]
      rcases ih with ⟨h, -⟩ | ⟨r, h⟩
      · exact ⟨σ x, by rw [h, max_bot_right]⟩
      · exact ⟨max (σ x) r, by rw [h]; exact (EReal.coe_strictMono.monotone.map_max).symm⟩
  rcases key Finset.univ with ⟨-, h⟩ | h
  · exact absurd h (Finset.univ_nonempty_iff.mpr ⟨⟨0, hn⟩⟩).ne_empty
  · exact h

/-- A product of rows of reals, scaled by a real, is a real. -/
theorem dot_real (q k : ι → EReal) (hq : ∀ d, ∃ r : ℝ, q d = r) (hk : ∀ d, ∃ r : ℝ, k d = r) (c : EReal) (hc : ∃ r : ℝ, c = r) :
    ∃ r : ℝ, (∑ d, q d * k d) * c = r := by
  choose a ha using hq
  choose b hb using hk
  obtain ⟨z, rfl⟩ := hc
  refine ⟨(∑ d, a d * b d) * z, ?_⟩
  rw [EReal.coe_mul, ← sum_coe]
  exact congrArg (· * (z : EReal)) (Finset.sum_congr rfl fun d _ => by rw [ha, hb, EReal.coe_mul])

end Cert.Soft
-- ==== Proof.Value.Consts.lean ====
/- The constants of the two programs as extended reals, and one attention score. -/
module

public import proofs.«01_k».proof.Proof.Value.Soft

@[expose] public section

noncomputable section

namespace Cert.Value

open Idealize.ShloMosaic

/-- The pattern of minus infinity. -/
theorem ofBits_negInf : Ideal.ofBits .f32 0xFF800000#32 = ⊥ := by
  show Ideal.ieee 8 23 0xFF800000#32 = ⊥
  unfold Ideal.ieee
  simp

/-- The pattern of plus infinity. -/
theorem ofBits_posInf : Ideal.ofBits .f32 0x7F800000#32 = ⊤ := by
  show Ideal.ieee 8 23 0x7F800000#32 = ⊤
  unfold Ideal.ieee
  simp

/-- The scale the scores are multiplied by: `1 / √128`. -/
def scale : EReal := (((Real.sqrt 128)⁻¹ : ℝ) : EReal)

/-- The scale is a real number. -/
theorem scale_real : ∃ r : ℝ, scale = r := ⟨_, rfl⟩

/-- The pattern of 128. -/
theorem ofBits_128 : Ideal.ofBits .f32 0x43000000#32 = ((128 : ℝ) : EReal) := by
  show Ideal.ieee 8 23 0x43000000#32 = _
  unfold Ideal.ieee
  dsimp only
  rw [if_neg (by decide), if_neg (by decide)]
  rw [show ((0x43000000#32).extractLsb' (8 + 23) 1 == 1#1) = false by decide,
    show ((0x43000000#32).extractLsb' 23 8).toNat = 134 by decide, show ((0x43000000#32).extractLsb' 0 23).toNat = 0 by decide]
  congr 1
  norm_num

/-- The scale as the reference computes it: one, divided by the root of 128. -/
theorem scale_computed : Ideal.div 1 (Ideal.sqrt (Ideal.ofBits .f32 0x43000000#32)) = scale := by
  have h : Real.sqrt 128 ≠ 0 := (Real.sqrt_pos.mpr (by norm_num)).ne'
  rw [ofBits_128, Ideal.sqrt_coe, if_neg (by norm_num), Ideal.div_coe h, one_mul, one_div]
  rfl

/-- One score: a query row against a key row, scaled. -/
def score (q k : Fin 128 → EReal) : EReal := (∑ d, q d * k d) * scale

/-- The score of finite rows is a real number. -/
theorem score_real (q k : Fin 128 → EReal) (hq : ∀ d, ∃ r : ℝ, q d = r) (hk : ∀ d, ∃ r : ℝ, k d = r) : ∃ r : ℝ, score q k = r :=
  Soft.dot_real q k hq hk scale scale_real

end Cert.Value
-- ==== Proof.Value.Head.lean ====
/- The kernel's arithmetic on one head, read at one query row and one column. -/
module

public import proofs.«01_k».proof.Proof.KernelIdealRun.Contents
public import proofs.«01_k».proof.Proof.Value.Consts
public import Idealize.ShloMosaic.Lib.Pointwise

@[expose] public section

noncomputable section

namespace Cert.Value

open Idealize.ShloMosaic
open Cert.KernelIdeal Cert.KernelIdeal.Gen Cert.KernelIdeal.Run

/-- A row of a staged head. -/
def row (X : S1x1024x1x128.Idx → EReal) (r : Fin 1024) (d : Fin 128) : EReal := X (ix4 0 r 0 d)

theorem pay10_apply (q : FVec Ideal S1x1024x1x128 .f32) (r : Fin 1024) (d : Fin 128) : k0_pay10 (F := Ideal) q (ix2 r d) = row q r d := by
  pointwise [k0_pay10, row]
theorem pay11_apply (v : FVec Ideal S1x1024x1x128 .f32) (r : Fin 1024) (d : Fin 128) : k0_pay11 (F := Ideal) v (ix2 r d) = row v r d := by
  pointwise [k0_pay11, row]
theorem stage_apply (x : FVec Ideal S1x1024x1x128 .f32) (r : Fin 1024) (d : Fin 128) : stageVal (F := Ideal) x (ix3 0 r d) = row x r d := by
  pointwise [stageVal, k0_pay1, row]

/-- The unscaled scores of a device's own half of the keys. -/
theorem pay12_apply (q k : FVec Ideal S1x1024x1x128 .f32) (r j : Fin 1024) :
    k0_pay12 (F := Ideal) q k (ix2 r j) = ∑ d, row q r d * row k j d := by
  pointwise [k0_pay12, pay10_apply, row]

/-- The kernel's named constant is the scale. -/
theorem scale_named : Named.named (F := Ideal) (φ := .f32) κ "scale" 0x3DB504F3#32 = scale :=
  IdealRules.named_const.ideal_named_scalar κ "scale" _ scale rfl

/-- The scaled scores. -/
theorem pay13_apply (x : FVec Ideal S1024x1024 .f32) (r j : Fin 1024) : k0_pay13 (F := Ideal) x (ix2 r j) = x (ix2 r j) * scale := by
  pointwise [k0_pay13, scale_named]

/-- A row's largest score. -/
theorem pay14_apply (x : FVec Ideal S1024x1024 .f32) (r : Fin 1024) :
    k0_pay14 (F := Ideal) x (ix2 r 0) = Finset.univ.fold max ⊥ fun j => x (ix2 r j) * scale := by
  pointwise [k0_pay14, pay13_apply]
  rw [ofBits_negInf]

/-- The weights. -/
theorem pay15_apply (x : FVec Ideal S1024x1024 .f32) (r j : Fin 1024) :
    k0_pay15 (F := Ideal) x (ix2 r j) = Ideal.exp (x (ix2 r j) * scale - k0_pay14 (F := Ideal) x (ix2 r 0)) := by
  pointwise [k0_pay15, pay13_apply]

/-- A row's sum of weights. -/
theorem pay16_apply (x : FVec Ideal S1024x1024 .f32) (r : Fin 1024) :
    k0_pay16 (F := Ideal) x (ix2 r 0) = ∑ j, Ideal.exp (x (ix2 r j) * scale - k0_pay14 (F := Ideal) x (ix2 r 0)) := by
  pointwise [k0_pay16, pay15_apply]

/-- A row's weighted sum of the values. -/
theorem pay17_apply (v : FVec Ideal S1024x128 .f32) (x : FVec Ideal S1024x1024 .f32) (r : Fin 1024) (d : Fin 128) :
    k0_pay17 (F := Ideal) v x (ix2 r d)
      = ∑ j, Ideal.exp (x (ix2 r j) * scale - k0_pay14 (F := Ideal) x (ix2 r 0)) * v (ix2 j d) := by
  pointwise [k0_pay17, pay15_apply]

/-- The unscaled scores of the other half of the keys. -/
def otherScores (q : FVec Ideal S1024x128 .f32) (k₂ : FVec Ideal S1x1024x128 .bf16) : FVec Ideal S1024x1024 .f32 :=
  matmul (F := Ideal) dot_S1024x128_S1024x128_S1024x1024_1_1_0_0_n_n none q
    (extf .f32 (shapeCast S1024x128 k₂ shapeCasts_S1x1024x128_S1024x128) bitsLt_bf16_f32) (constant S1024x1024 .f32 0x00000000#32)
/-- The values of the other half of the keys. -/
def otherValues (v₂ : FVec Ideal S1x1024x128 .bf16) : FVec Ideal S1024x128 .f32 :=
  extf .f32 (shapeCast S1024x128 v₂ shapeCasts_S1x1024x128_S1024x128) bitsLt_bf16_f32

/-- Two halves combined, each with its row maximum, its sum of weights and its weighted sum. -/
def combine (m₁ l₁ : FVec Ideal S1024x1 .f32) (o₁ : FVec Ideal S1024x128 .f32) (m₂ l₂ : FVec Ideal S1024x1 .f32)
    (o₂ : FVec Ideal S1024x128 .f32) : FVec Ideal S1x1024x128 .bf16 :=
  have a₁ : FVec Ideal S1024x1 .f32 := exp (subf m₁ (maximumf m₁ m₂))
  have a₂ : FVec Ideal S1024x1 .f32 := exp (subf m₂ (maximumf m₁ m₂))
  shapeCast S1x1024x128 (truncf .bf16
    (divf (addf (mulf o₁ (broadcastTo S1024x128 a₁ broadcasts_S1024x1_S1024x128)) (mulf o₂ (broadcastTo S1024x128 a₂ broadcasts_S1024x1_S1024x128)))
      (broadcastTo S1024x128 (addf (mulf l₁ a₁) (mulf l₂ a₂)) broadcasts_S1024x1_S1024x128)) bitsLt_bf16_f32) shapeCasts_S1024x128_S1x1024x128

/-- A head's second half and the combination, in terms of the first half's operations. -/
theorem pay18_eq (q : FVec Ideal S1024x128 .f32) (m l : FVec Ideal S1024x1 .f32) (o : FVec Ideal S1024x128 .f32)
    (k₂ v₂ : FVec Ideal S1x1024x128 .bf16) :
    k0_pay18 (F := Ideal) q m l o k₂ v₂
      = combine m l o (k0_pay14 (otherScores q k₂)) (k0_pay16 (otherScores q k₂)) (k0_pay17 (otherValues v₂) (otherScores q k₂)) := rfl

theorem otherScores_apply (q : FVec Ideal S1024x128 .f32) (k₂ : FVec Ideal S1x1024x128 .bf16) (r j : Fin 1024) :
    otherScores q k₂ (ix2 r j) = ∑ d, q (ix2 r d) * k₂ (ix3 0 j d) := by
  pointwise [otherScores]
theorem otherValues_apply (v₂ : FVec Ideal S1x1024x128 .bf16) (r : Fin 1024) (d : Fin 128) :
    otherValues v₂ (ix2 r d) = v₂ (ix3 0 r d) := by
  pointwise [otherValues]

/-- The combination at a row and a column. -/
theorem combine_apply (m₁ l₁ : FVec Ideal S1024x1 .f32) (o₁ : FVec Ideal S1024x128 .f32) (m₂ l₂ : FVec Ideal S1024x1 .f32)
    (o₂ : FVec Ideal S1024x128 .f32) (r : Fin 1024) (d : Fin 128) :
    combine m₁ l₁ o₁ m₂ l₂ o₂ (ix3 0 r d)
      = Ideal.div
          (o₁ (ix2 r d) * Ideal.exp (m₁ (ix2 r 0) - max (m₁ (ix2 r 0)) (m₂ (ix2 r 0)))
            + o₂ (ix2 r d) * Ideal.exp (m₂ (ix2 r 0) - max (m₁ (ix2 r 0)) (m₂ (ix2 r 0))))
          (l₁ (ix2 r 0) * Ideal.exp (m₁ (ix2 r 0) - max (m₁ (ix2 r 0)) (m₂ (ix2 r 0)))
            + l₂ (ix2 r 0) * Ideal.exp (m₂ (ix2 r 0) - max (m₁ (ix2 r 0)) (m₂ (ix2 r 0)))) := by
  pointwise [combine]

/-- A row's largest score among the keys of one head of one block. -/
def rowMax (q k : S1x1024x1x128.Idx → EReal) (r : Fin 1024) : EReal :=
  Finset.univ.fold max ⊥ fun j : Fin 1024 => score (row q r) (row k j)

/-- **A head's result** at a row and a column: the two halves of the keys, each taken against its own largest score, combined. -/
theorem head_apply (q k v k' v' : FVec Ideal S1x1024x1x128 .f32) (r : Fin 1024) (d : Fin 128) :
    headVal (F := Ideal) q k v (stageVal (F := Ideal) k') (stageVal (F := Ideal) v') (ix3 0 r d)
      = Ideal.div
          ((∑ j, Ideal.exp (score (row q r) (row k j) - rowMax q k r) * row v j d)
              * Ideal.exp (rowMax q k r - max (rowMax q k r) (rowMax q k' r))
            + (∑ j, Ideal.exp (score (row q r) (row k' j) - rowMax q k' r) * row v' j d)
              * Ideal.exp (rowMax q k' r - max (rowMax q k r) (rowMax q k' r)))
          ((∑ j, Ideal.exp (score (row q r) (row k j) - rowMax q k r))
              * Ideal.exp (rowMax q k r - max (rowMax q k r) (rowMax q k' r))
            + (∑ j, Ideal.exp (score (row q r) (row k' j) - rowMax q k' r))
              * Ideal.exp (rowMax q k' r - max (rowMax q k r) (rowMax q k' r))) := by
  unfold headVal
  rw [pay18_eq, combine_apply]
  simp only [pay16_apply, pay17_apply, pay14_apply, pay12_apply, otherScores_apply, otherValues_apply, pay10_apply, pay11_apply,
    stage_apply]
  rfl

/-- The output buffer, as stored to the result. -/
theorem pay46_apply (x : FVec Ideal S16x1024x128 .bf16) (r : Fin 1024) (n : Fin 16) (d : Fin 128) :
    k0_pay46 (F := Ideal) x (ix4 0 r n d) = x (ix3 n r d) := by
  pointwise [k0_pay46]

end Cert.Value
-- ==== Proof.Value.Reference.lean ====
/- The reference's attention, read at one query row, one head and one column. -/
module

public import proofs.«01_k».proof.Proof.Gen.ReferenceIdeal
public import proofs.«01_k».proof.Proof.Value.Consts
public import Idealize.ShloMosaic.Lib.Pointwise

@[expose] public section

noncomputable section

namespace Cert.Value

open Idealize.ShloMosaic
open Cert.ReferenceIdeal Cert.ReferenceIdeal.Gen

/-- A row of one head of a whole input. -/
def wrow (X : S1x2048x16x128.Idx → EReal) (n : Fin 16) (r : Fin 2048) (d : Fin 128) : EReal := X (ix4 0 r n d)

/-- The reference's scaled scores. -/
def refScores (Q K : FVec Ideal S1x2048x16x128 .f32) : FVec Ideal S1x16x2048x2048 .f32 :=
  mulf (Host.dotGeneral (F := Ideal) dot_S1x2048x16x128_S1x2048x16x128_S1x16x2048x2048_3_3_1_1_02_02 none Q K)
    (broadcastInDim S1x16x2048x2048 ![] bcast_S_S1x16x2048x2048
      (Host.divf (F := Ideal) (constant S_ .f32 0x3F800000#32) (Host.sqrt (F := Ideal) (constant S_ .f32 0x43000000#32))))

/-- The largest score of every row. -/
def refMax (s : FVec Ideal S1x16x2048x2048 .f32) : FVec Ideal S1x16x2048 .f32 :=
  Host.reduce (FloatOps.maximumf (F := Ideal)) s (constant S_ .f32 0xFF800000#32) reducesTo_S1x16x2048x2048_S1x16x2048_d3 h_S_

/-- A number per row, for every key of the row. -/
def refRows (x : FVec Ideal S1x16x2048 .f32) : FVec Ideal S1x16x2048x2048 .f32 :=
  broadcastInDim S1x16x2048x2048 ![0, 1, 2, 3] bcast_S1x16x2048x1_S1x16x2048x2048_0_1_2_3
    (broadcastInDim S1x16x2048x1 ![0, 1, 2] bcast_S1x16x2048_S1x16x2048x1_0_1_2 x)

/-- The weights. -/
def refExp (s : FVec Ideal S1x16x2048x2048 .f32) : FVec Ideal S1x16x2048x2048 .f32 :=
  Host.exp (F := Ideal) (subf s (refRows (refMax s)))

/-- The sum of every row's weights. -/
def refSum (p : FVec Ideal S1x16x2048x2048 .f32) : FVec Ideal S1x16x2048 .f32 :=
  Host.reduceAdd (F := Ideal) p (constant S_ .f32 0x00000000#32) reducesTo_S1x16x2048x2048_S1x16x2048_d3 h_S_

/-- The whole reference. -/
def refOut (Q K V : FVec Ideal S1x2048x16x128 .f32) : FVec Ideal S1x2048x16x128 .f32 :=
  transpose S1x2048x16x128 [0, 3, 1, 2]
    (Host.dotGeneral (F := Ideal) dot_S1x2048x16x128_S1x16x2048x2048_S1x16x128x2048_1_3_3_2_02_01 none V
      (Host.divf (refExp (refScores Q K)) (refRows (refSum (refExp (refScores Q K))))))
    transposes_S1x16x128x2048_S1x2048x16x128_0_3_1_2

theorem refScores_apply (Q K : FVec Ideal S1x2048x16x128 .f32) (n : Fin 16) (r j : Fin 2048) :
    refScores Q K (ix4 0 n r j) = score (wrow Q n r) (wrow K n j) := by
  pointwise [refScores, score, wrow]
  rw [scale_computed]

theorem refMax_apply (s : FVec Ideal S1x16x2048x2048 .f32) (n : Fin 16) (r : Fin 2048) :
    refMax s (ix3 0 n r) = Finset.univ.fold max ⊥ fun j : Fin 2048 => s (ix4 0 n r j) := by
  pointwise [refMax]
  rw [ofBits_negInf]

theorem refRows_apply (x : FVec Ideal S1x16x2048 .f32) (n : Fin 16) (r j : Fin 2048) : refRows x (ix4 0 n r j) = x (ix3 0 n r) := by
  pointwise [refRows]

theorem refExp_apply (s : FVec Ideal S1x16x2048x2048 .f32) (n : Fin 16) (r j : Fin 2048) :
    refExp s (ix4 0 n r j) = Ideal.exp (s (ix4 0 n r j) - refMax s (ix3 0 n r)) := by
  pointwise [refExp, refRows_apply]

theorem refSum_apply (p : FVec Ideal S1x16x2048x2048 .f32) (n : Fin 16) (r : Fin 2048) :
    refSum p (ix3 0 n r) = ∑ j : Fin 2048, p (ix4 0 n r j) := by
  pointwise [refSum]

/-- A row's largest score among all the keys of one head. -/
def wholeMax (Q K : S1x2048x16x128.Idx → EReal) (n : Fin 16) (r : Fin 2048) : EReal :=
  Finset.univ.fold max ⊥ fun j : Fin 2048 => score (wrow Q n r) (wrow K n j)

/-- **The reference's result** at a row, a head and a column. -/
theorem refOut_apply (Q K V : FVec Ideal S1x2048x16x128 .f32) (r : Fin 2048) (n : Fin 16) (d : Fin 128) :
    refOut Q K V (ix4 0 r n d)
      = ∑ j : Fin 2048, wrow V n j d
          * Ideal.div (Ideal.exp (score (wrow Q n r) (wrow K n j) - wholeMax Q K n r))
              (∑ i : Fin 2048, Ideal.exp (score (wrow Q n r) (wrow K n i) - wholeMax Q K n r)) := by
  pointwise [refOut, refExp_apply, refRows_apply, refSum_apply, refMax_apply, refScores_apply, wrow, wholeMax]

end Cert.Value
-- ==== Proof.Value.Join.lean ====
/- The kernel's result on a device is that device's block of the reference's result, when the queries
   and the keys are finite. -/
module

public import proofs.«01_k».proof.Proof.Value.Head
public import proofs.«01_k».proof.Proof.Value.Reference

@[expose] public section

noncomputable section

namespace Cert.Value

open Idealize.ShloMosaic Idealize.ShloMosaic.TcCoe
open Cert.KernelIdeal Cert.KernelIdeal.Run

/-! ## Blocks of the sequence -/

/-- Which of the two blocks of the sequence a device has. -/
def xb (c : Dev nD) : Fin 2 := ⟨c.val / 8, by have h : c.val < 16 := c.isLt; omega⟩

/-- Row `r` of block `b`, in the whole sequence. -/
def rowAt (b : Fin 2) (r : Fin 1024) : Fin 2048 := ⟨1024 * b.val + r.val, by omega⟩

theorem xb_xn (c : Dev nD) : xb (xn c) = 1 - xb c := by revert c; decide
theorem xb_peer (c : Dev nD) (p : Fin 4) : xb (peer c p) = xb c := by revert c p; decide
theorem rk_peer (c : Dev nD) (p : Fin 4) : rk (peer c p) = p := by revert c p; decide
theorem sl_rOf (n : Fin 16) : sl (rOf n) (jOf n) = n := by revert n; decide
theorem xb_first (b : Fin 2) : ∃ c : Dev nD, xb c = b := by revert b; decide

/-- Every row is in one of the blocks. -/
theorem exists_rowAt (r : Fin 2048) : ∃ b i, r = rowAt b i :=
  ⟨⟨r.val / 1024, by omega⟩, ⟨r.val % 1024, by omega⟩, Fin.ext (by show r.val = 1024 * (r.val / 1024) + r.val % 1024; omega)⟩

/-- A sum over the whole sequence is the sum over a block and over the other block. -/
theorem sum_blocks (b : Fin 2) (f : Fin 2048 → EReal) : ∑ k, f k = ∑ k, f (rowAt b k) + ∑ k, f (rowAt (1 - b) k) := by
  have h0 : ∀ k : Fin 1024, rowAt 0 k = Fin.castAdd 1024 k := fun k => Fin.ext (by show 1024 * 0 + k.val = k.val; omega)
  have h1 : ∀ k : Fin 1024, rowAt 1 k = Fin.natAdd 1024 k := fun k => Fin.ext (by show 1024 * 1 + k.val = 1024 + k.val; omega)
  have h : ∑ k, f k = ∑ k, f (rowAt 0 k) + ∑ k, f (rowAt 1 k) := by
    simp only [h0, h1]
    exact Fin.sum_univ_add (a := 1024) (b := 1024) f
  rcases (by decide +revert : b = 0 ∨ b = 1) with rfl | rfl
  · exact h
  · exact h.trans (add_comm _ _)

/-- The coordinate of a device's block along the sequence. -/
theorem block_coord (c : Dev nD) :
    ((Layout.meshBlock [2, 2, 4] (![[], [0], [], []] : Fin 4 → List Nat) c) 1).val = (xb c).val := by revert c; decide

/-- A device's block of a whole array. -/
abbrev part (c : Dev nD) (X : Cert.ReferenceIdeal.S1x2048x16x128.Idx → EReal) : S1x1024x16x128.Idx → EReal :=
  Layout.blockN ⟨4, ![1, 1024, 16, 128]⟩ ⟨4, ![1, 2048, 16, 128]⟩ (Layout.meshBlock [2, 2, 4] ![[], [0], [], []] c) X

/-- A device's block of a whole array, at an element. -/
theorem part_apply (c : Dev nD) (X : Cert.ReferenceIdeal.S1x2048x16x128.Idx → EReal) (r : Fin 1024) (n : Fin 16) (d : Fin 128) :
    part c X (ix4 0 r n d) = X (ix4 0 (rowAt (xb c) r) n d) := by
  refine congrArg X (funext fun a => Fin.ext ?_)
  match a with
  | 0 => rfl
  | 1 =>
    show ((Layout.meshBlock [2, 2, 4] (![[], [0], [], []] : Fin 4 → List Nat) c) 1).val * 1024 + r.val = 1024 * (xb c).val + r.val
    rw [block_coord, mul_comm]
  | 2 => show 0 * 16 + n.val = n.val; omega
  | 3 => show 0 * 128 + d.val = d.val; omega

/-! ## Finite inputs -/

/-- An extended real whose absolute value compares below plus infinity is a real. -/
theorem real_of_abs (x : EReal) (h : max x (-x) < ⊤) : ∃ r : ℝ, x = r := by
  induction x with
  | bot => simp at h
  | top => simp at h
  | coe r => exact ⟨r, rfl⟩

/-! ## Heads -/

variable (m : (ℓ : Loc nD τ sig) → Buf (Elt Ideal) ℓ)

/-- A device's blocks are its arguments. -/
theorem qB_eq (c : Dev nD) : qB m c = m ((c : Thread nD τ).loc main_arg0) :=
  funext fun i => congrArg (m ((c : Thread nD τ).loc main_arg0)) (funext fun a => Fin.ext (by
    show 0 * S1x1024x16x128.size a + 1 * (i a).val = (i a).val; omega))
theorem kB_eq (c : Dev nD) : kB m c = m ((c : Thread nD τ).loc main_arg1) :=
  funext fun i => congrArg (m ((c : Thread nD τ).loc main_arg1)) (funext fun a => Fin.ext (by
    show 0 * S1x1024x16x128.size a + 1 * (i a).val = (i a).val; omega))
theorem vB_eq (c : Dev nD) : vB m c = m ((c : Thread nD τ).loc main_arg2) :=
  funext fun i => congrArg (m ((c : Thread nD τ).loc main_arg2)) (funext fun a => Fin.ext (by
    show 0 * S1x1024x16x128.size a + 1 * (i a).val = (i a).val; omega))

/-- A row of a head of a block. -/
theorem row_hd (X : S1x1024x16x128.Idx → EReal) (n : Fin 16) (r : Fin 1024) (d : Fin 128) :
    row (hd (F := Ideal) X n) r d = X (ix4 0 r n d) :=
  congrArg X (funext fun a => Fin.ext (by
    match a with
    | 0 => rfl
    | 1 => show 0 + 1 * r.val = r.val; omega
    | 2 => show n.val + 1 * 0 = n.val; omega
    | 3 => show 0 + 1 * d.val = d.val; omega))

variable {m} {Q K V : Cert.ReferenceIdeal.S1x2048x16x128.Idx → EReal}

/-- A row of a head of a device's queries, in the whole array; the keys and the values likewise. -/
theorem row_q (hQ : ∀ c : Dev nD, m ((c : Thread nD τ).loc main_arg0) = part c Q) (c : Dev nD) (n : Fin 16) (r : Fin 1024) :
    row (hd (F := Ideal) (qB m c) n) r = wrow Q n (rowAt (xb c) r) := by
  funext d; rw [qB_eq, hQ]; exact (row_hd _ n r d).trans (part_apply c Q r n d)
theorem row_k (hK : ∀ c : Dev nD, m ((c : Thread nD τ).loc main_arg1) = part c K) (c : Dev nD) (n : Fin 16) (r : Fin 1024) :
    row (hd (F := Ideal) (kB m c) n) r = wrow K n (rowAt (xb c) r) := by
  funext d; rw [kB_eq, hK]; exact (row_hd _ n r d).trans (part_apply c K r n d)
theorem row_v (hV : ∀ c : Dev nD, m ((c : Thread nD τ).loc main_arg2) = part c V) (c : Dev nD) (n : Fin 16) (r : Fin 1024) :
    row (hd (F := Ideal) (vB m c) n) r = wrow V n (rowAt (xb c) r) := by
  funext d; rw [vB_eq, hV]; exact (row_hd _ n r d).trans (part_apply c V r n d)

/-- A head computed by a device is the reference's head, on the device's rows. -/
theorem headV_eq (hQ : ∀ c : Dev nD, m ((c : Thread nD τ).loc main_arg0) = part c Q)
    (hK : ∀ c : Dev nD, m ((c : Thread nD τ).loc main_arg1) = part c K)
    (hV : ∀ c : Dev nD, m ((c : Thread nD τ).loc main_arg2) = part c V)
    (fQ : ∀ n r d, ∃ x : ℝ, wrow Q n r d = x) (fK : ∀ n r d, ∃ x : ℝ, wrow K n r d = x)
    (c : Dev nD) (j : Fin 4) (r : Fin 1024) (d : Fin 128) :
    headV m c j (ix3 0 r d) = refOut Q K V (ix4 0 (rowAt (xb c) r) (sl (rk c) j) d) := by
  have hs : ∀ i k, ∃ x : ℝ, score (wrow Q (sl (rk c) j) i) (wrow K (sl (rk c) j) k) = x := fun i k => score_real _ _ (fQ _ _) (fK _ _)
  rw [refOut_apply]
  unfold headV
  rw [head_apply]
  simp only [rowMax, row_q hQ, row_k hK, row_v hV, xb_xn]
  exact Soft.two_halves (rowAt (xb c)) (rowAt (1 - xb c)) (sum_blocks (xb c))
    (fun k => score (wrow Q (sl (rk c) j) (rowAt (xb c) r)) (wrow K (sl (rk c) j) k)) (fun k => wrow V (sl (rk c) j) k d) (hs _) _ _ _
    (Soft.fold_max_real (by decide) _ fun _ => hs _ _) (Soft.fold_max_real (by decide) _ fun _ => hs _ _)
    (Soft.fold_max_real (by decide) _ fun _ => hs _ _)

/-- **The kernel's result is its block of the reference's.** -/
theorem outV_eq (hQ : ∀ c : Dev nD, m ((c : Thread nD τ).loc main_arg0) = part c Q)
    (hK : ∀ c : Dev nD, m ((c : Thread nD τ).loc main_arg1) = part c K)
    (hV : ∀ c : Dev nD, m ((c : Thread nD τ).loc main_arg2) = part c V)
    (fQ : ∀ n r d, ∃ x : ℝ, wrow Q n r d = x) (fK : ∀ n r d, ∃ x : ℝ, wrow K n r d = x) (c : Dev nD) :
    outV m c = part c (refOut Q K V) := by
  funext i
  obtain ⟨r, n, d, rfl⟩ : ∃ (r : Fin 1024) (n : Fin 16) (d : Fin 128), i = ix4 0 r n d :=
    ⟨i 1, i 2, i 3, funext fun a => Fin.ext (by
      match a with
      | 0 => have h := (i 0).isLt; change (i 0).val < 1 at h; show (i 0).val = 0; omega
      | 1 => rfl
      | 2 => rfl
      | 3 => rfl)⟩
  rw [part_apply]
  refine (pay46_apply (oF m c) r n d).trans ?_
  have hin : in16 (ix3 n r d) = (ix3 0 r d : S1x1024x128.Idx) := funext fun a => by
    match a with
    | 0 => rfl
    | 1 => rfl
    | 2 => rfl
  show headV m (peer c (rOf n)) (jOf n) (in16 (ix3 n r d)) = _
  rw [hin, headV_eq hQ hK hV fQ fK, xb_peer, rk_peer, sl_rOf]

end Cert.Value
-- ==== Proof.Value.Finite.lean ====
/- What the precondition says: every query and every key is a real number. -/
module

public import proofs.«01_k».proof.Defs
public import proofs.«01_k».proof.Proof.Value.Join

@[expose] public section

noncomputable section

namespace Cert.Value

open Idealize.ShloMosaic Idealize.ShloMosaic.TcCoe
open Cert.KernelIdeal Cert.KernelIdeal.Run

/-- The precondition's side conditions, on a device's blocks and on whole arrays. -/
theorem preFacts : Cert.Pre_finite_queries_and_keys_KernelIdeal.Facts := ⟨by decide⟩
theorem preFactsRef : Cert.Pre_finite_queries_and_keys_ReferenceIdeal.Facts := ⟨by decide⟩

variable [Cert.Pre_finite_queries_and_keys_KernelIdeal.Facts]

/-- An element of the queries of which the precondition holds is a real. -/
theorem pre_query (q k v : FVec Ideal S1x1024x16x128 .f32)
    (h : (Cert.Pre_finite_queries_and_keys_KernelIdeal.fn (F := Ideal) q k v).1 = fun _ => 1#1) (i : S1x1024x16x128.Idx) : ∃ x : ℝ, q i = x := by
  refine real_of_abs (q i) ?_
  have h := congrFun h i
  change Ideal.cmp .olt (max (q i) (-(q i))) (Ideal.ofBits .f32 0x7F800000#32) = 1#1 at h
  rw [ofBits_posInf] at h
  by_contra hn
  simp [Ideal.cmp, hn] at h

/-- And of the keys. -/
theorem pre_key (q k v : FVec Ideal S1x1024x16x128 .f32)
    (h : (Cert.Pre_finite_queries_and_keys_KernelIdeal.fn (F := Ideal) q k v).2 = fun _ => 1#1) (i : S1x1024x16x128.Idx) : ∃ x : ℝ, k i = x :=
  pre_query k k v h i

/-- A whole array whose every block is real is real. -/
theorem whole_real {X : Cert.ReferenceIdeal.S1x2048x16x128.Idx → EReal} (h : ∀ (c : Dev nD) i, ∃ x : ℝ, part c X i = x) :
    ∀ n r d, ∃ x : ℝ, wrow X n r d = x := by
  intro n r d
  obtain ⟨b, i, rfl⟩ := exists_rowAt r
  obtain ⟨c, rfl⟩ := xb_first b
  obtain ⟨x, hx⟩ := h c (ix4 0 i n d)
  exact ⟨x, (part_apply c X i n d).symm.trans hx⟩

end Cert.Value
-- ==== Proof.lean ====
/- Every claim about the kernel: the kernel and its idealization run to the end and leave nothing
   pending, the reference too, and the idealized kernel computes the reference's attention. -/
module

public import proofs.«01_k».proof.Defs
public import proofs.«01_k».proof.Proof.KernelRun.Launch
public import proofs.«01_k».proof.Proof.KernelIdealRun.Launch
public import proofs.«01_k».proof.Proof.Gen.ReferenceIdeal.Run
public import proofs.«01_k».proof.Proof.Value.Finite

@[expose] public section

noncomputable section

namespace Cert.Proof

open Idealize.ShloMosaic Idealize.ShloMosaic.TcCoe Idealize.SL.Sem

/-- The kernel runs, its arguments unchanged and its counters at zero. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Run.run_arrays (F := Bits) m ρ)

/-- The idealized kernel runs, from any memory. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Run.run_arrays (F := Ideal) m ρ)

/-- The idealized reference runs, from any memory; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's idealization names one constant, the scale `1 / √128`. -/
theorem preserves : Cert.preserves_Kernel_KernelIdeal :=
  ⟨rfl, fun _ => IdealRules.named_const.ideal_named _ _ _ _ rfl, IdealRules.named_const.ideal_named_scalar _ _ _ _ rfl⟩

/-- The idealized kernel's result on every device is its block of the reference's result. -/
theorem algebraic : Cert.algebraic_KernelIdeal_ReferenceIdeal_pre_finite_queries_and_keys_KernelIdeal
    (hKernelIdeal := Cert.KernelIdeal.Gen.facts) (hReferenceIdeal := Cert.ReferenceIdeal.Gen.facts)
    (hPre_finite_queries_and_keys_KernelIdeal := Cert.Value.preFacts) := by
  intro m ρ m' ρ' hpre hag
  letI := Cert.Value.preFacts
  have hQ := fun c => (hag c).1
  have hK := fun c => (hag c).2.1
  have hV := fun c => (hag c).2.2
  have fQ := Cert.Value.whole_real fun c i => by
    rw [← show _ = Cert.Value.part c _ from hQ c]; exact Cert.Value.pre_query _ _ _ (hpre c).1 i
  have fK := Cert.Value.whole_real fun c i => by
    rw [← show _ = Cert.Value.part c _ from hK c]; exact Cert.Value.pre_key _ _ _ (hpre c).2 i
  exact ⟨_, (θ_run Cert.KernelIdeal.defs _ _).mono
      (fun _ h c => ⟨(h.1 c).1.trans (Cert.Value.outV_eq hQ hK hV fQ fK c), (h.1 c).2⟩) (Cert.KernelIdeal.Run.run_arrays (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Value.preFacts, Cert.Value.preFactsRef,
    frame_kernel, frame_ideal, fun m ρ _ => frame_ideal m ρ trivial, frame_reference, fun m ρ _ => frame_reference m ρ trivial,
    preserves, algebraic⟩

end Cert.Proof

end
